-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![8192, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S2x256 : Shape := ⟨2, ![2, 256]⟩
abbrev S32x2x256 : Shape := ⟨3, ![32, 2, 256]⟩
abbrev S32 : Shape := ⟨1, ![32]⟩
abbrev S_ : Shape := ⟨0, ![]⟩
abbrev S256 : Shape := ⟨1, ![256]⟩
abbrev S1x256 : Shape := ⟨2, ![1, 256]⟩
abbrev S1x1x256 : Shape := ⟨3, ![1, 1, 256]⟩
abbrev S1 : Shape := ⟨1, ![1]⟩
abbrev S1x2x256 : Shape := ⟨3, ![1, 2, 256]⟩
abbrev S8x1x256 : Shape := ⟨3, ![8, 1, 256]⟩
abbrev S8x256 : Shape := ⟨2, ![8, 256]⟩
abbrev S7x1x256 : Shape := ⟨3, ![7, 1, 256]⟩
abbrev S7x256 : Shape := ⟨2, ![7, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S2x256, .f32⟩
  | .local _ .vmem, ⟨0, _⟩ => ⟨S256x256, .f32⟩
  | .local _ .vmem, ⟨1, _⟩ => ⟨S2x256, .f32⟩
  | .local _ .vmem, ⟨2, _⟩ => ⟨S32x2x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_133 : BitVec 32 := 1#32
  let v148 : BitVec 32 := Scalar.addi v2 c1_i32_133
  let c32_i32_134 : BitVec 32 := 32#32
  let v149 : BitVec 32 := Scalar.remsi v148 c32_i32_134
  let c1_i32_139 : BitVec 32 := 1#32
  let v150 : BitVec 32 := Scalar.muli v149 c1_i32_139
  let v151 : BitVec 32 := Scalar.addi c0_i32_140 v150
  v151.toNat
def k0_dev33 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_145 : BitVec 32 := 2#32
  let v160 : BitVec 32 := Scalar.addi v2 c2_i32_145
  let c32_i32_146 : BitVec 32 := 32#32
  let v161 : BitVec 32 := Scalar.remsi v160 c32_i32_146
  let c1_i32_151 : BitVec 32 := 1#32
  let v162 : BitVec 32 := Scalar.muli v161 c1_i32_151
  let v163 : BitVec 32 := Scalar.addi c0_i32_152 v162
  v163.toNat
def k0_dev34 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_157 : BitVec 32 := 3#32
  let v172 : BitVec 32 := Scalar.addi v2 c3_i32_157
  let c32_i32_158 : BitVec 32 := 32#32
  let v173 : BitVec 32 := Scalar.remsi v172 c32_i32_158
  let c1_i32_163 : BitVec 32 := 1#32
  let v174 : BitVec 32 := Scalar.muli v173 c1_i32_163
  let v175 : BitVec 32 := Scalar.addi c0_i32_164 v174
  v175.toNat
def k0_dev35 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_169 : BitVec 32 := 4#32
  let v184 : BitVec 32 := Scalar.addi v2 c4_i32_169
  let c32_i32_170 : BitVec 32 := 32#32
  let v185 : BitVec 32 := Scalar.remsi v184 c32_i32_170
  let c1_i32_175 : BitVec 32 := 1#32
  let v186 : BitVec 32 := Scalar.muli v185 c1_i32_175
  let v187 : BitVec 32 := Scalar.addi c0_i32_176 v186
  v187.toNat
def k0_dev36 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_181 : BitVec 32 := 5#32
  let v196 : BitVec 32 := Scalar.addi v2 c5_i32_181
  let c32_i32_182 : BitVec 32 := 32#32
  let v197 : BitVec 32 := Scalar.remsi v196 c32_i32_182
  let c1_i32_187 : BitVec 32 := 1#32
  let v198 : BitVec 32 := Scalar.muli v197 c1_i32_187
  let v199 : BitVec 32 := Scalar.addi c0_i32_188 v198
  v199.toNat
def k0_dev37 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_193 : BitVec 32 := 6#32
  let v208 : BitVec 32 := Scalar.addi v2 c6_i32_193
  let c32_i32_194 : BitVec 32 := 32#32
  let v209 : BitVec 32 := Scalar.remsi v208 c32_i32_194
  let c1_i32_199 : BitVec 32 := 1#32
  let v210 : BitVec 32 := Scalar.muli v209 c1_i32_199
  let v211 : BitVec 32 := Scalar.addi c0_i32_200 v210
  v211.toNat
def k0_dev38 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_205 : BitVec 32 := 7#32
  let v220 : BitVec 32 := Scalar.addi v2 c7_i32_205
  let c32_i32_206 : BitVec 32 := 32#32
  let v221 : BitVec 32 := Scalar.remsi v220 c32_i32_206
  let c1_i32_211 : BitVec 32 := 1#32
  let v222 : BitVec 32 := Scalar.muli v221 c1_i32_211
  let v223 : BitVec 32 := Scalar.addi c0_i32_212 v222
  v223.toNat
def k0_dev39 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_217 : BitVec 32 := 8#32
  let v232 : BitVec 32 := Scalar.addi v2 c8_i32_217
  let c32_i32_218 : BitVec 32 := 32#32
  let v233 : BitVec 32 := Scalar.remsi v232 c32_i32_218
  let c1_i32_223 : BitVec 32 := 1#32
  let v234 : BitVec 32 := Scalar.muli v233 c1_i32_223
  let v235 : BitVec 32 := Scalar.addi c0_i32_224 v234
  v235.toNat
def k0_dev40 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_229 : BitVec 32 := 9#32
  let v244 : BitVec 32 := Scalar.addi v2 c9_i32_229
  let c32_i32_230 : BitVec 32 := 32#32
  let v245 : BitVec 32 := Scalar.remsi v244 c32_i32_230
  let c1_i32_235 : BitVec 32 := 1#32
  let v246 : BitVec 32 := Scalar.muli v245 c1_i32_235
  let v247 : BitVec 32 := Scalar.addi c0_i32_236 v246
  v247.toNat
def k0_dev41 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_241 : BitVec 32 := 10#32
  let v256 : BitVec 32 := Scalar.addi v2 c10_i32_241
  let c32_i32_242 : BitVec 32 := 32#32
  let v257 : BitVec 32 := Scalar.remsi v256 c32_i32_242
  let c1_i32_247 : BitVec 32 := 1#32
  let v258 : BitVec 32 := Scalar.muli v257 c1_i32_247
  let v259 : BitVec 32 := Scalar.addi c0_i32_248 v258
  v259.toNat
def k0_dev42 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_253 : BitVec 32 := 11#32
  let v268 : BitVec 32 := Scalar.addi v2 c11_i32_253
  let c32_i32_254 : BitVec 32 := 32#32
  let v269 : BitVec 32 := Scalar.remsi v268 c32_i32_254
  let c1_i32_259 : BitVec 32 := 1#32
  let v270 : BitVec 32 := Scalar.muli v269 c1_i32_259
  let v271 : BitVec 32 := Scalar.addi c0_i32_260 v270
  v271.toNat
def k0_dev43 (d0 : Dev nD) : Nat :=
  let c0_i32_272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_265 : BitVec 32 := 12#32
  let v280 : BitVec 32 := Scalar.addi v2 c12_i32_265
  let c32_i32_266 : BitVec 32 := 32#32
  let v281 : BitVec 32 := Scalar.remsi v280 c32_i32_266
  let c1_i32_271 : BitVec 32 := 1#32
  let v282 : BitVec 32 := Scalar.muli v281 c1_i32_271
  let v283 : BitVec 32 := Scalar.addi c0_i32_272 v282
  v283.toNat
def k0_dev44 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_277 : BitVec 32 := 13#32
  let v292 : BitVec 32 := Scalar.addi v2 c13_i32_277
  let c32_i32_278 : BitVec 32 := 32#32
  let v293 : BitVec 32 := Scalar.remsi v292 c32_i32_278
  let c1_i32_283 : BitVec 32 := 1#32
  let v294 : BitVec 32 := Scalar.muli v293 c1_i32_283
  let v295 : BitVec 32 := Scalar.addi c0_i32_284 v294
  v295.toNat
def k0_dev45 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_289 : BitVec 32 := 14#32
  let v304 : BitVec 32 := Scalar.addi v2 c14_i32_289
  let c32_i32_290 : BitVec 32 := 32#32
  let v305 : BitVec 32 := Scalar.remsi v304 c32_i32_290
  let c1_i32_295 : BitVec 32 := 1#32
  let v306 : BitVec 32 := Scalar.muli v305 c1_i32_295
  let v307 : BitVec 32 := Scalar.addi c0_i32_296 v306
  v307.toNat
def k0_dev46 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_301 : BitVec 32 := 15#32
  let v316 : BitVec 32 := Scalar.addi v2 c15_i32_301
  let c32_i32_302 : BitVec 32 := 32#32
  let v317 : BitVec 32 := Scalar.remsi v316 c32_i32_302
  let c1_i32_307 : BitVec 32 := 1#32
  let v318 : BitVec 32 := Scalar.muli v317 c1_i32_307
  let v319 : BitVec 32 := Scalar.addi c0_i32_308 v318
  v319.toNat
def k0_dev47 (d0 : Dev nD) : Nat :=
  let c0_i32_320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_313 : BitVec 32 := 16#32
  let v328 : BitVec 32 := Scalar.addi v2 c16_i32_313
  let c32_i32_314 : BitVec 32 := 32#32
  let v329 : BitVec 32 := Scalar.remsi v328 c32_i32_314
  let c1_i32_319 : BitVec 32 := 1#32
  let v330 : BitVec 32 := Scalar.muli v329 c1_i32_319
  let v331 : BitVec 32 := Scalar.addi c0_i32_320 v330
  v331.toNat
def k0_dev48 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_325 : BitVec 32 := 17#32
  let v340 : BitVec 32 := Scalar.addi v2 c17_i32_325
  let c32_i32_326 : BitVec 32 := 32#32
  let v341 : BitVec 32 := Scalar.remsi v340 c32_i32_326
  let c1_i32_331 : BitVec 32 := 1#32
  let v342 : BitVec 32 := Scalar.muli v341 c1_i32_331
  let v343 : BitVec 32 := Scalar.addi c0_i32_332 v342
  v343.toNat
def k0_dev49 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_337 : BitVec 32 := 18#32
  let v352 : BitVec 32 := Scalar.addi v2 c18_i32_337
  let c32_i32_338 : BitVec 32 := 32#32
  let v353 : BitVec 32 := Scalar.remsi v352 c32_i32_338
  let c1_i32_343 : BitVec 32 := 1#32
  let v354 : BitVec 32 := Scalar.muli v353 c1_i32_343
  let v355 : BitVec 32 := Scalar.addi c0_i32_344 v354
  v355.toNat
def k0_dev50 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_349 : BitVec 32 := 19#32
  let v364 : BitVec 32 := Scalar.addi v2 c19_i32_349
  let c32_i32_350 : BitVec 32 := 32#32
  let v365 : BitVec 32 := Scalar.remsi v364 c32_i32_350
  let c1_i32_355 : BitVec 32 := 1#32
  let v366 : BitVec 32 := Scalar.muli v365 c1_i32_355
  let v367 : BitVec 32 := Scalar.addi c0_i32_356 v366
  v367.toNat
def k0_dev51 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_361 : BitVec 32 := 20#32
  let v376 : BitVec 32 := Scalar.addi v2 c20_i32_361
  let c32_i32_362 : BitVec 32 := 32#32
  let v377 : BitVec 32 := Scalar.remsi v376 c32_i32_362
  let c1_i32_367 : BitVec 32 := 1#32
  let v378 : BitVec 32 := Scalar.muli v377 c1_i32_367
  let v379 : BitVec 32 := Scalar.addi c0_i32_368 v378
  v379.toNat
def k0_dev52 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_373 : BitVec 32 := 21#32
  let v388 : BitVec 32 := Scalar.addi v2 c21_i32_373
  let c32_i32_374 : BitVec 32 := 32#32
  let v389 : BitVec 32 := Scalar.remsi v388 c32_i32_374
  let c1_i32_379 : BitVec 32 := 1#32
  let v390 : BitVec 32 := Scalar.muli v389 c1_i32_379
  let v391 : BitVec 32 := Scalar.addi c0_i32_380 v390
  v391.toNat
def k0_dev53 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_385 : BitVec 32 := 22#32
  let v400 : BitVec 32 := Scalar.addi v2 c22_i32_385
  let c32_i32_386 : BitVec 32 := 32#32
  let v401 : BitVec 32 := Scalar.remsi v400 c32_i32_386
  let c1_i32_391 : BitVec 32 := 1#32
  let v402 : BitVec 32 := Scalar.muli v401 c1_i32_391
  let v403 : BitVec 32 := Scalar.addi c0_i32_392 v402
  v403.toNat
def k0_dev54 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_397 : BitVec 32 := 23#32
  let v412 : BitVec 32 := Scalar.addi v2 c23_i32_397
  let c32_i32_398 : BitVec 32 := 32#32
  let v413 : BitVec 32 := Scalar.remsi v412 c32_i32_398
  let c1_i32_403 : BitVec 32 := 1#32
  let v414 : BitVec 32 := Scalar.muli v413 c1_i32_403
  let v415 : BitVec 32 := Scalar.addi c0_i32_404 v414
  v415.toNat
def k0_dev55 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_409 : BitVec 32 := 24#32
  let v424 : BitVec 32 := Scalar.addi v2 c24_i32_409
  let c32_i32_410 : BitVec 32 := 32#32
  let v425 : BitVec 32 := Scalar.remsi v424 c32_i32_410
  let c1_i32_415 : BitVec 32 := 1#32
  let v426 : BitVec 32 := Scalar.muli v425 c1_i32_415
  let v427 : BitVec 32 := Scalar.addi c0_i32_416 v426
  v427.toNat
def k0_dev56 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_421 : BitVec 32 := 25#32
  let v436 : BitVec 32 := Scalar.addi v2 c25_i32_421
  let c32_i32_422 : BitVec 32 := 32#32
  let v437 : BitVec 32 := Scalar.remsi v436 c32_i32_422
  let c1_i32_427 : BitVec 32 := 1#32
  let v438 : BitVec 32 := Scalar.muli v437 c1_i32_427
  let v439 : BitVec 32 := Scalar.addi c0_i32_428 v438
  v439.toNat
def k0_dev57 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_433 : BitVec 32 := 26#32
  let v448 : BitVec 32 := Scalar.addi v2 c26_i32_433
  let c32_i32_434 : BitVec 32 := 32#32
  let v449 : BitVec 32 := Scalar.remsi v448 c32_i32_434
  let c1_i32_439 : BitVec 32 := 1#32
  let v450 : BitVec 32 := Scalar.muli v449 c1_i32_439
  let v451 : BitVec 32 := Scalar.addi c0_i32_440 v450
  v451.toNat
def k0_dev58 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_445 : BitVec 32 := 27#32
  let v460 : BitVec 32 := Scalar.addi v2 c27_i32_445
  let c32_i32_446 : BitVec 32 := 32#32
  let v461 : BitVec 32 := Scalar.remsi v460 c32_i32_446
  let c1_i32_451 : BitVec 32 := 1#32
  let v462 : BitVec 32 := Scalar.muli v461 c1_i32_451
  let v463 : BitVec 32 := Scalar.addi c0_i32_452 v462
  v463.toNat
def k0_dev59 (d0 : Dev nD) : Nat :=
  let c0_i32_464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_457 : BitVec 32 := 28#32
  let v472 : BitVec 32 := Scalar.addi v2 c28_i32_457
  let c32_i32_458 : BitVec 32 := 32#32
  let v473 : BitVec 32 := Scalar.remsi v472 c32_i32_458
  let c1_i32_463 : BitVec 32 := 1#32
  let v474 : BitVec 32 := Scalar.muli v473 c1_i32_463
  let v475 : BitVec 32 := Scalar.addi c0_i32_464 v474
  v475.toNat
def k0_dev60 (d0 : Dev nD) : Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_469 : BitVec 32 := 29#32
  let v484 : BitVec 32 := Scalar.addi v2 c29_i32_469
  let c32_i32_470 : BitVec 32 := 32#32
  let v485 : BitVec 32 := Scalar.remsi v484 c32_i32_470
  let c1_i32_475 : BitVec 32 := 1#32
  let v486 : BitVec 32 := Scalar.muli v485 c1_i32_475
  let v487 : BitVec 32 := Scalar.addi c0_i32_476 v486
  v487.toNat
def k0_dev61 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_481 : BitVec 32 := 30#32
  let v496 : BitVec 32 := Scalar.addi v2 c30_i32_481
  let c32_i32_482 : BitVec 32 := 32#32
  let v497 : BitVec 32 := Scalar.remsi v496 c32_i32_482
  let c1_i32_487 : BitVec 32 := 1#32
  let v498 : BitVec 32 := Scalar.muli v497 c1_i32_487
  let v499 : BitVec 32 := Scalar.addi c0_i32_488 v498
  v499.toNat
def k0_dev62 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_493 : BitVec 32 := 31#32
  let v508 : BitVec 32 := Scalar.addi v2 c31_i32_493
  let c32_i32_494 : BitVec 32 := 32#32
  let v509 : BitVec 32 := Scalar.remsi v508 c32_i32_494
  let c1_i32_499 : BitVec 32 := 1#32
  let v510 : BitVec 32 := Scalar.muli v509 c1_i32_499
  let v511 : BitVec 32 := Scalar.addi c0_i32_500 v510
  v511.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x256 : Shape := ⟨2, ![8192, 256]⟩
abbrev S_ : Shape := ⟨0, ![]⟩
abbrev S256 : Shape := ⟨1, ![256]⟩
abbrev S1x256 : Shape := ⟨2, ![1, 256]⟩
abbrev S2x256 : Shape := ⟨2, ![2, 256]⟩

abbrev nBuf : Space → Nat
  | .hbm => 12
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .i32⟩
  | .hbm, ⟨2, _⟩ => ⟨S_, .f32⟩
  | .hbm, ⟨3, _⟩ => ⟨S_, .i32⟩
  | .hbm, ⟨4, _⟩ => ⟨S256, .f32⟩
  | .hbm, ⟨5, _⟩ => ⟨S256, .i32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S1x256, .f32⟩
  | .hbm, ⟨10, _⟩ => ⟨S1x256, .f32⟩
  | .hbm, ⟨11, _⟩ => ⟨S2x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.KernelIdeal.Program.lean ====
/-  The kernel body of v03, printed as one long list of operations, written again as four loops over the
    ring distance: `sigs` (the barrier signals), `sends` (the remote copies), `recvs` (the waits for
    the arrivals) and `dones` (the waits for the departures), with the loads, stores and the pure
    payloads between them. `body_eq` says the printed body is this program. -/
module

public import proofs.«01_k».proof.Proof.Gen.KernelIdeal.Skeleton
public import proofs.«01_k».proof.Proof.Gen.KernelIdeal.Frame

@[expose] public section

noncomputable section

namespace Cert.KernelIdeal.Pr

open Cert.KernelIdeal Cert.KernelIdeal.Gen
open Idealize.ShloMosaic Idealize.SL Idealize.SL.Sem Idealize.ShloMosaic.TcCoe

variable {F : FTy → Type} [FloatOps F]

/-- The ring distances 1, …, 31: entry `k` of `Fin 31` stands for the distance `k + 1`. -/
abbrev Dist := Fin 31

/-- The device a signal at distance `k + 1` goes to, as printed. -/
def sigNat (c : Dev nD) : Dist → ℕ := ![k0_dev1 c, k0_dev2 c, k0_dev3 c, k0_dev4 c, k0_dev5 c, k0_dev6 c, k0_dev7 c, k0_dev8 c, k0_dev9 c, k0_dev10 c, k0_dev11 c, k0_dev12 c, k0_dev13 c, k0_dev14 c, k0_dev15 c, k0_dev16 c, k0_dev17 c, k0_dev18 c, k0_dev19 c, k0_dev20 c, k0_dev21 c, k0_dev22 c, k0_dev23 c, k0_dev24 c, k0_dev25 c, k0_dev26 c, k0_dev27 c, k0_dev28 c, k0_dev29 c, k0_dev30 c, k0_dev31 c]
/-- The device a copy at distance `k + 1` goes to, as printed. -/
def sendNat (c : Dev nD) : Dist → ℕ := ![k0_dev32 c, k0_dev33 c, k0_dev34 c, k0_dev35 c, k0_dev36 c, k0_dev37 c, k0_dev38 c, k0_dev39 c, k0_dev40 c, k0_dev41 c, k0_dev42 c, k0_dev43 c, k0_dev44 c, k0_dev45 c, k0_dev46 c, k0_dev47 c, k0_dev48 c, k0_dev49 c, k0_dev50 c, k0_dev51 c, k0_dev52 c, k0_dev53 c, k0_dev54 c, k0_dev55 c, k0_dev56 c, k0_dev57 c, k0_dev58 c, k0_dev59 c, k0_dev60 c, k0_dev61 c, k0_dev62 c]

/-- The device `k + 1` places further round the ring. -/
def shift (c : Dev nD) (k : Dist) : Dev nD := ⟨(c.val + (k.val + 1)) % 32, Nat.mod_lt _ (by decide)⟩

theorem sigNat_eq (c : Dev nD) (k : Dist) : sigNat c k = (shift c k).val := by
  fin_cases k <;>
    simp only [shift, k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, sigNat] <;> rfl
theorem sendNat_eq (c : Dev nD) (k : Dist) : sendNat c k = (shift c k).val := by
  fin_cases k <;>
    simp only [shift, k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, sendNat] <;> rfl

theorem sigNat_lt (c : Dev nD) (k : Dist) : sigNat c k < nD := sigNat_eq c k ▸ (shift c k).isLt
theorem sendNat_lt (c : Dev nD) (k : Dist) : sendNat c k < nD := sendNat_eq c k ▸ (shift c k).isLt

/-- Slot `s` of the gathering buffer lies within it. -/
theorem inbSlot (s : Fin 32) : ∀ a, (![s.val, 0, 0] : Fin 3 → Nat) a + S1x2x256.size a ≤ S32x2x256.size a := by
  intro a; have := s.isLt; fin_cases a
  · show s.val + 1 ≤ 32; omega
  · exact Nat.le_refl 2
  · exact Nat.le_refl 256
/-- Entry `s` of a semaphore array lies within it. -/
theorem inbSem (s : Fin 32) : ∀ a, (![s.val] : Fin 1 → Nat) a + S1.size a ≤ S32.size a := by
  intro a; have := s.isLt; fin_cases a; show s.val + 1 ≤ 32; omega

/-- The gathering buffer. -/
abbrev gath : Memref sig .tc .vmem S32x2x256 .f32 := Memref.whole cc0_scratch0
/-- Slot `s` of the gathering buffer: a pair of rows. -/
abbrev slot (s : Fin 32) : Memref sig .tc .vmem S2x256 .f32 :=
  (gath.slice (Rect.unit (s := S32x2x256) ![s.val, 0, 0] S1x2x256.size (inbSlot s)) (fun _ => rfl)).squeeze S2x256 squeezes_S1x2x256_S2x256
/-- The semaphore counting the departure of the copy into slot `s`. -/
abbrev sendSem (s : Fin 32) : DmaSem sig := ((cc0_scratch1.slice (Rect.unit (s := S32) ![s.val] S1.size (inbSem s))).squeeze S_ squeezes_S1_S_).sem
/-- The semaphore counting the arrival in slot `s`. -/
abbrev recvSem (s : Fin 32) : DmaSem sig := ((cc0_scratch2.slice (Rect.unit (s := S32) ![s.val] S1.size (inbSem s))).squeeze S_ squeezes_S1_S_).sem
/-- The barrier semaphore. -/
abbrev barSem : Sem sig := sig.barrier 0 rfl

/-- A program of one TensorCore of the kernel. -/
abbrev Pg := Prog (TpuEff nD τ sig (Elt F) Λ₀ .tc) PUnit

/-- One barrier signal per distance of the list. -/
def sigs (c : Dev nD) : List Dist → Pg (F := F) → Pg (F := F)
  | [], K => K
  | k :: l, K => .op (.semSignal ((⟨sigNat c k, sigNat_lt c k⟩ : Dev nD), .tc) barSem ((1 : ℕ) : ℤ)) fun _ => sigs c l K
/-- One remote copy per distance of the list: slot 0 into slot `k + 1` of the device at distance `k + 1`. -/
def sends (c : Dev nD) : List Dist → Pg (F := F) → Pg (F := F)
  | [], K => K
  | k :: l, K =>
    .op (.enqueueDma (slot 0) (.remote (Dev.tc (⟨sendNat c k, sendNat_lt c k⟩ : Dev nD)) (slot k.succ) (.dma (sendSem k.succ)))
      (.dma (recvSem k.succ)) ((View.wordExact_bits rfl).reshape _ _) ((View.wordExact_bits rfl).reshape _ _)
      ⟨⟨rfl, Or.inl rfl⟩, trivial⟩) fun _ => sends c l K
/-- One wait for an arrival per distance of the list. -/
def recvs : List Dist → Pg (F := F) → Pg (F := F)
  | [], K => K
  | k :: l, K =>
    .op (.waitDma2 (recvSem k.succ) (slot 0) (slot k.succ) ((View.wordExact_bits rfl).reshape _ _) ((View.wordExact_bits rfl).reshape _ _))
      fun _ => recvs l K
/-- One wait for a departure per distance of the list. -/
def dones : List Dist → Pg (F := F) → Pg (F := F)
  | [], K => K
  | k :: l, K =>
    .op (.waitDma2 (sendSem k.succ) (slot k.succ) (slot 0) ((View.wordExact_bits rfl).reshape _ _) ((View.wordExact_bits rfl).reshape _ _))
      fun _ => dones l K

/-- All distances in program order, and the four groups in which the arrivals are read. -/
def allD : List Dist := [0, 1, 2, 3, 4, 5, 6, 7, 8, 9, 10, 11, 12, 13, 14, 15, 16, 17, 18, 19, 20, 21, 22, 23, 24, 25, 26, 27, 28, 29, 30]
def grp1 : List Dist := [0, 1, 2, 3, 4, 5, 6, 7]
def grp2 : List Dist := [8, 9, 10, 11, 12, 13, 14, 15]
def grp3 : List Dist := [16, 17, 18, 19, 20, 21, 22, 23]
def grp4 : List Dist := [24, 25, 26, 27, 28, 29, 30]

/-- The ring position the kernel computes from its device's id. -/
def posWord (c : Dev nD) : BitVec 32 := Scalar.remsi (Scalar.divsi (Dev.word c) 1#32) 32#32

/-- The kernel's two halves: up to the barrier wait and the sends, -/
def body1 (c : Dev nD) (a0 : Memref sig .tc .vmem S256x256 .f32) (K : Vec F S256x256 .f32 → Pg (F := F)) : Pg (F := F) :=
  sigs c allD <|
  .op (.load a0 (Rect.unit (s := S256x256) ![0, 0] S256x256.size inb_S256x256_S256x256_0_0).toLoadRect (View.loadsAt_vmem h_S256x256)) fun x =>
  .op (.load gath (Rect.unit (s := S32x2x256) ![0, 0, 0] S1x1x256.size inb_S32x2x256_S1x1x256_0_0_0).toLoadRect (View.loadsAt_vmem h_S1x1x256)) fun _ =>
  .op (.store gath (Rect.unit (s := S32x2x256) ![0, 0, 0] S1x1x256.size inb_S32x2x256_S1x1x256_0_0_0) (k0_pay4 x) Finset.univ (View.stores_vmem_bits_univ h_S1x1x256 rfl) (.inl rfl)) fun _ =>
  .op (.load gath (Rect.unit (s := S32x2x256) ![0, 1, 0] S1x1x256.size inb_S32x2x256_S1x1x256_0_1_0).toLoadRect (View.loadsAt_vmem h_S1x1x256)) fun _ =>
  .op (.store gath (Rect.unit (s := S32x2x256) ![0, 1, 0] S1x1x256.size inb_S32x2x256_S1x1x256_0_1_0) (k0_pay5 (posWord c) x) Finset.univ (View.stores_vmem_bits_univ h_S1x1x256 rfl) (.inl rfl)) fun _ =>
  .op (.semWait barSem ((31 : ℕ) : ℤ)) fun _ =>
  sends c allD (K x)

/-- and the arrivals, the combination, the result and the departures. -/
def body2 (c : Dev nD) (a1 : Memref sig .tc .vmem S2x256 .f32) (x : Vec F S256x256 .f32) : Pg (F := F) :=
  recvs grp1 <|
  .op (.load gath (Rect.unit (s := S32x2x256) ![1, 0, 0] S8x1x256.size inb_S32x2x256_S8x1x256_1_0_0).toLoadRect (View.loadsAt_vmem h_S8x1x256)) fun u1 =>
  .op (.load gath (Rect.unit (s := S32x2x256) ![1, 1, 0] S8x1x256.size inb_S32x2x256_S8x1x256_1_1_0).toLoadRect (View.loadsAt_vmem h_S8x1x256)) fun w1 =>
  let m1 := k0_pay8 (k0_pay2 x) u1
  let n1 := k0_pay9 (k0_pay2 x) (k0_pay3 (posWord c) x) u1 w1
  recvs grp2 <|
  .op (.load gath (Rect.unit (s := S32x2x256) ![9, 0, 0] S8x1x256.size inb_S32x2x256_S8x1x256_9_0_0).toLoadRect (View.loadsAt_vmem h_S8x1x256)) fun u2 =>
  .op (.load gath (Rect.unit (s := S32x2x256) ![9, 1, 0] S8x1x256.size inb_S32x2x256_S8x1x256_9_1_0).toLoadRect (View.loadsAt_vmem h_S8x1x256)) fun w2 =>
  let m2 := k0_pay12 m1 u2
  let n2 := k0_pay13 m1 n1 u2 w2
  recvs grp3 <|
  .op (.load gath (Rect.unit (s := S32x2x256) ![17, 0, 0] S8x1x256.size inb_S32x2x256_S8x1x256_17_0_0).toLoadRect (View.loadsAt_vmem h_S8x1x256)) fun u3 =>
  .op (.load gath (Rect.unit (s := S32x2x256) ![17, 1, 0] S8x1x256.size inb_S32x2x256_S8x1x256_17_1_0).toLoadRect (View.loadsAt_vmem h_S8x1x256)) fun w3 =>
  let m3 := k0_pay16 m2 u3
  let n3 := k0_pay17 m2 n2 u3 w3
  recvs grp4 <|
  .op (.load gath (Rect.unit (s := S32x2x256) ![25, 0, 0] S7x1x256.size inb_S32x2x256_S7x1x256_25_0_0).toLoadRect (View.loadsAt_vmem h_S7x1x256)) fun u4 =>
  .op (.load gath (Rect.unit (s := S32x2x256) ![25, 1, 0] S7x1x256.size inb_S32x2x256_S7x1x256_25_1_0).toLoadRect (View.loadsAt_vmem h_S7x1x256)) fun w4 =>
  .op (.load a1 (Rect.unit (s := S2x256) ![0, 0] S1x256.size inb_S2x256_S1x256_0_0).toLoadRect (View.loadsAt_vmem h_S1x256)) fun _ =>
  .op (.store a1 (Rect.unit (s := S2x256) ![0, 0] S1x256.size inb_S2x256_S1x256_0_0) (k0_pay20 m3 u4) Finset.univ (View.stores_vmem_bits_univ h_S1x256 rfl) (.inl rfl)) fun _ =>
  .op (.load a1 (Rect.unit (s := S2x256) ![1, 0] S1x256.size inb_S2x256_S1x256_1_0).toLoadRect (View.loadsAt_vmem h_S1x256)) fun _ =>
  .op (.store a1 (Rect.unit (s := S2x256) ![1, 0] S1x256.size inb_S2x256_S1x256_1_0) (k0_pay21 m3 n3 u4 w4) Finset.univ (View.stores_vmem_bits_univ h_S1x256 rfl) (.inl rfl)) fun _ =>
  dones allD (.ret ⟨⟩)

set_option maxRecDepth 65536 in
/-- The printed body, on the staging buffers and the kernel's scratch, is the four loops. -/
theorem body_eq (a0 : Memref sig .tc .vmem S256x256 .f32) (h0 : a0.IsWhole) (a1 : Memref sig .tc .vmem S2x256 .f32) (h1 : a1.IsWhole) :
    cc0_body (F := F) a0 h0 a1 h1 (Memref.whole cc0_scratch0) (Memref.isWhole_whole _) cc0_scratch1 cc0_scratch2
      = .op .deviceId fun c => body1 c a0 fun x => body2 c a1 x := by
  chain_rfl

end Cert.KernelIdeal.Pr

end
-- ==== Proof.KernelIdeal.Slots.lean ====
/-  The gathering buffer cut into its 32 slots: which elements a slot has, what one remote copy
    leaves in a slot, and the buffer held slot by slot. -/
module

public import proofs.«01_k».proof.Proof.KernelIdeal.Program
public import Idealize.ShloMosaic.Lib.Pointwise.Index
public import Idealize.ShloMosaic.Lib.Pipeline.BigSepL
public import Idealize.ShloMosaic.Lib.Transfers

@[expose] public section

noncomputable section

namespace Cert.KernelIdeal.Pr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The resource algebra -/

/-- The kernel's own protocol: duties named by ring distances. -/
abbrev UB : Type := URounds (GSem nD τ sig) Dist
/-- The pipeline library's ghost state beside it. -/
abbrev UU : Type := UR sig nD τ × UB

local notation "𝕄" => MT nD τ sig Unit (Elt F) ℕ UU ℕ

/-! ## The ring -/

theorem shift_rev (c : Dev nD) (k : Dist) : shift (shift c k) k.rev = c := by
  refine Fin.ext ?_
  have hc : c.val < 32 := c.isLt
  have hk := k.isLt
  simp only [shift, Fin.val_rev]; omega
theorem rev_shift (c : Dev nD) (k : Dist) : shift (shift c k.rev) k = c := by
  have := shift_rev c k.rev; rwa [Fin.rev_rev] at this
/-- Going `k + 1` places round the ring. -/
def turn (k : Dist) : Dev nD ≃ Dev nD := ⟨fun c => shift c k, fun c => shift c k.rev, fun c => shift_rev c k, fun c => rev_shift c k⟩

/-- The device whose rows slot `s` of device `c` is to hold. -/
def src (c : Dev nD) (s : Fin 32) : Dev nD := ⟨(c.val + 32 - s.val) % 32, Nat.mod_lt _ (by decide)⟩
theorem src_zero (c : Dev nD) : src c 0 = c := by
  refine Fin.ext ?_
  have hc : c.val < 32 := c.isLt
  simp only [src]; show (c.val + 32 - 0) % 32 = c.val; omega
theorem src_shift (c : Dev nD) (k : Dist) : src (shift c k) k.succ = c := by
  refine Fin.ext ?_
  have hc : c.val < 32 := c.isLt
  have hk := k.isLt
  simp only [src, shift, Fin.val_succ]; omega

/-! ## The elements of a slot -/

/-- The elements of slot `s`. -/
def slotSet (s : Fin 32) : Finset S32x2x256.Idx := Finset.univ.filter fun i => (i 0).val = s.val

theorem slot_emb0 (s : Fin 32) (x : S2x256.Idx) : ((slot s).view.emb x 0 : Fin 32) = s := by
  refine Fin.ext ?_
  show s.val + 1 * _ = s.val
  have h : ∀ y : Fin 1, s.val + 1 * y.val = s.val := fun y => by omega
  exact h _
theorem slot_emb1 (s s' : Fin 32) (x : S2x256.Idx) : ((slot s).view.emb x 1 : Fin 2) = (slot s').view.emb x 1 := rfl
theorem slot_emb2 (s s' : Fin 32) (x : S2x256.Idx) : ((slot s).view.emb x 2 : Fin 256) = (slot s').view.emb x 2 := rfl

theorem slot_set (s : Fin 32) : (slot s).view.set = slotSet s := by
  refine (View.set_reshape _ _).trans ?_
  show ((View.whole cc0_scratch0).slice (Rect.unit (s := S32x2x256) ![s.val, 0, 0] S1x2x256.size (inbSlot s))).set = _
  rw [View.set_slice_whole]
  ext i
  rw [Rect.mem_set_unit]
  unfold slotSet
  rw [Finset.mem_filter]
  constructor
  · intro h
    refine ⟨Finset.mem_univ _, ?_⟩
    have := h 0
    have h1 : s.val ≤ (i 0).val := this.1
    have h2 : (i 0).val < s.val + 1 := this.2
    show (i 0).val = s.val
    omega
  · rintro ⟨-, h⟩ a
    have h0 : (i 0).val = s.val := h
    fin_cases a
    · exact ⟨le_of_eq h0.symm, by show (i 0).val < s.val + 1; omega⟩
    · exact ⟨Nat.zero_le _, by have : (i 1).val < 2 := (i 1).isLt; show (i 1).val < 0 + 2; omega⟩
    · exact ⟨Nat.zero_le _, by have : (i 2).val < 256 := (i 2).isLt; show (i 2).val < 0 + 256; omega⟩

theorem slotSet_disjoint {s s' : Fin 32} (h : s ≠ s') : Disjoint (slotSet s) (slotSet s') :=
  Finset.disjoint_left.mpr fun i hi hi' => h (Fin.ext ((Finset.mem_filter.mp hi).2.symm.trans (Finset.mem_filter.mp hi').2))
theorem slotSet_cover (i : S32x2x256.Idx) : ∃ s ∈ (Finset.univ : Finset (Fin 32)), i ∈ slotSet s :=
  ⟨(i 0 : Fin 32), Finset.mem_univ _, Finset.mem_filter.mpr ⟨Finset.mem_univ _, rfl⟩⟩

/-- A set of elements held is its parts held, whatever way the set is written. -/
theorem held_parts {ℓ : Loc nD τ sig} {q : PosShare TreeShare} {f : Buf (Elt F) ℓ} {T : Type} (S : Finset T)
    (K : T → Finset (Idx ℓ)) (J : Finset (Idx ℓ)) (hJ : ∀ i, i ∈ J ↔ ∃ t ∈ S, i ∈ K t)
    (h : ∀ t ∈ S, ∀ t' ∈ S, t ≠ t' → Disjoint (K t) (K t')) :
    (ℓ ↦[J]{q} f : sProp 𝕄) = bigSep S fun t => ℓ ↦[K t]{q} f := by
  have hS : J = S.biUnion K := by ext i; rw [hJ, Finset.mem_biUnion]
  rw [hS]; exact pointsTo_biUnion S K h

/-! ## The rows a device sends -/

/-- Contents of the gathering buffer. -/
abbrev GBuf (F : FTy → Type) : Type := (cc0_scratch0 : Ref sig .tc).ty.Contents (Elt F)

/-- What device `c`'s gathering buffer holds when every arrival is in, `X p` the block of device `p`: slot `s`
    has the local maxima and their global row numbers of device `src c s`. -/
def gathF (X : Dev nD → Vec F S256x256 .f32) (c : Dev nD) : GBuf F := fun i : S32x2x256.Idx =>
  if (i 1).val = 0 then k0_pay4 (X (src c (i 0))) (ix3 0 0 (i 2 : Fin 256))
  else k0_pay5 (posWord (src c (i 0))) (X (src c (i 0))) (ix3 0 0 (i 2 : Fin 256))

variable (X : Dev nD → Vec F S256x256 .f32)

/-- Slot `0` of device `c` copied into slot `k + 1` of the device `k + 1` places on is what that slot is to hold. -/
theorem landing (c : Dev nD) (k : Dist) (fd : GBuf F) :
    ∀ i ∈ slotSet k.succ, (slot k.succ).view.write (Elt F) fd ((slot 0).view.read (Elt F) (gathF X c)) Finset.univ i
      = gathF X (shift c k) i := by
  intro i hi
  rw [← slot_set] at hi
  obtain ⟨x, -, rfl⟩ := Finset.mem_map.mp hi
  rw [View.write_emb_of_mem _ _ (Finset.mem_univ x)]
  show gathF X c ((slot 0).view.emb x) = gathF X (shift c k) ((slot k.succ).view.emb x)
  unfold gathF
  rw [slot_emb0, slot_emb0, src_zero, src_shift]
  rfl

/-! ## The buffer slot by slot -/

/-- Slot `s` of device `c`'s gathering buffer, held at the share `q` with the contents `f`. -/
def slotAt (c : Dev nD) (s : Fin 32) (q : PosShare TreeShare) (f : GBuf F) : sProp 𝕄 :=
  (slot s).view.loc (c : Thread nD τ) ↦[(slot s).view.set]{q} f

instance slotAt_storable (c : Dev nD) (s q f) : BI.Storable (upEmb : UEmb _ 𝕄) (slotAt (F := F) c s q f) := by
  unfold slotAt; infer_instance

theorem slotAt_eq (c : Dev nD) (s : Fin 32) (q : PosShare TreeShare) (f : GBuf F) :
    slotAt c s q f = (((c : Thread nD τ).loc cc0_scratch0) ↦[slotSet s]{q} f : sProp 𝕄) := by
  unfold slotAt; rw [slot_set]

theorem slotAt_congr (c : Dev nD) (s : Fin 32) (q : PosShare TreeShare) {f g : GBuf F} (h : ∀ i ∈ slotSet s, f i = g i) :
    (slotAt c s q f : sProp 𝕄) = slotAt c s q g := by
  rw [slotAt_eq, slotAt_eq]; exact pointsTo_congr h

/-- A family over the slots is slot 0's member and the others'. -/
theorem slots_succ (Φ : Fin 32 → sProp 𝕄) :
    bigSep Finset.univ Φ = iprop(Φ 0 ∗ bigSep Finset.univ fun k : Dist => Φ k.succ) := by
  rw [Fin.univ_succ, Finset.cons_eq_insert, BI.bigSep_insert (by simp), BI.bigSep_map]; rfl

theorem allD_univ : (Finset.univ : Finset Dist) = allD.toFinset := by decide
theorem allD_nodup : allD.Nodup := by decide
theorem over_allD (Φ : Dist → sProp 𝕄) : bigSep Finset.univ Φ = bigSepL allD Φ :=
  bigSep_univ_eq_bigSepL allD allD_univ allD_nodup Φ

/-- A list of pairs held is the two lists held. -/
theorem list_sep (l : List Dist) (Φ Ψ : Dist → sProp 𝕄) :
    (bigSepL l fun k => iprop(Φ k ∗ Ψ k)) = iprop(bigSepL l Φ ∗ bigSepL l Ψ) := by
  induction l with
  | nil =>
    exact BI.Entails.antisymm (show (iprop(emp) : sProp 𝕄) ⊢ iprop(emp ∗ emp) by iintro -; isplitr <;> iempintro)
      (show (iprop(emp ∗ emp) : sProp 𝕄) ⊢ iprop(emp) by iintro -; iempintro)
  | cons k l ih =>
    have comm (A B C D : sProp 𝕄) : iprop((A ∗ B) ∗ C ∗ D) ⊢ iprop((A ∗ C) ∗ B ∗ D) := by
      iintro ⟨⟨H1, H2⟩, H3, H4⟩
      isplitl [H1 H3]
      · isplitl [H1] <;> iassumption
      isplitl [H2] <;> iassumption
    rw [bigSepL_cons', bigSepL_cons', bigSepL_cons', ih]
    exact BI.Entails.antisymm (comm _ _ _ _) (comm _ _ _ _)

/-- The whole buffer is its 32 slots. -/
theorem whole_slots (c : Dev nD) (f : GBuf F) :
    (((c : Thread nD τ).loc cc0_scratch0) ↦{fullShare} f : sProp 𝕄)
      = iprop(slotAt c 0 fullShare f ∗ bigSep Finset.univ fun k : Dist => slotAt c k.succ fullShare f) := by
  rw [← slots_succ (fun s => slotAt c s fullShare f)]
  simp only [slotAt_eq]
  exact held_parts (ℓ := (c : Thread nD τ).loc cc0_scratch0) Finset.univ slotSet Finset.univ
    (fun i => ⟨fun _ => slotSet_cover i, fun _ => Finset.mem_univ _⟩) fun t _ t' _ h => slotSet_disjoint h

/-- The slots of a list of distances. -/
def slotsOf (l : List Dist) : Finset S32x2x256.Idx := l.toFinset.biUnion fun k => slotSet k.succ
theorem mem_slotsOf (l : List Dist) (i : S32x2x256.Idx) : i ∈ slotsOf l ↔ ∃ k ∈ l.toFinset, i ∈ slotSet k.succ := Finset.mem_biUnion

/-- Slots held one by one are their union held. -/
theorem slots_union (c : Dev nD) (l : List Dist) (hl : l.Nodup) (f : GBuf F) :
    (bigSepL l fun k => slotAt c k.succ fullShare f : sProp 𝕄)
      = (((c : Thread nD τ).loc cc0_scratch0) ↦[slotsOf l]{fullShare} f : sProp 𝕄) := by
  refine Eq.trans ?_ (held_parts (ℓ := (c : Thread nD τ).loc cc0_scratch0) l.toFinset (fun k : Dist => slotSet k.succ)
    (slotsOf l) (mem_slotsOf l) fun t _ t' _ h => slotSet_disjoint fun h' => h (Fin.succ_injective _ h')).symm
  rw [← bigSep_eq_bigSepL _ hl]
  exact bigSep_congr fun k _ => slotAt_eq c k.succ fullShare f

/-- The share of slot 0 lent to the copy at distance `k + 1`. -/
abbrev lent (k : Dist) : PosShare TreeShare := shareTok fullShare 31 k
/-- Slot 0 held whole is what is kept of it and the 31 lent shares. -/
theorem slot0_lend (c : Dev nD) (f : GBuf F) :
    (slotAt c 0 fullShare f : sProp 𝕄)
      = iprop(slotAt c 0 (shareDrop fullShare 31) f ∗ bigSepL allD fun k => slotAt c 0 (lent k) f) := by
  rw [← over_allD]
  unfold slotAt
  exact BI.Entails.antisymm (pointsTo_toks_split fullShare 31) (pointsTo_toks_join fullShare 31)

end Cert.KernelIdeal.Pr

end
-- ==== Proof.KernelIdeal.Protocol.lean ====
/-  The protocol of the exchange: which semaphore counts what, which device pays it, what each payment
    hands over, what every device owes at the start and in which order waits may stand.

    Barrier of device `c`: 31 units, one from every other device. The device `j + 1` places on pays duty
    `j`, and hands over its slot `j + 1`, into which `c` will copy.
    Arrival cell `k` of `c`: the bytes of one slot, paid by the copy from the device `k + 1` places back; it
    hands over slot `k + 1`, filled with that device's rows.
    Departure cell `k` of `c`: the same bytes, paid by `c`'s own copy; it hands back the part of slot 0 lent
    to the copy. -/
module

public import proofs.«01_k».proof.Proof.KernelIdeal.Slots

@[expose] public section

noncomputable section

namespace Cert.KernelIdeal.Pr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barCell (c : Dev nD) : GSem nD τ sig := ((c : Thread nD τ), .reg barSem)
abbrev sendCell (c : Dev nD) (k : Dist) : GSem nD τ sig := ((c : Thread nD τ), .dma (sendSem k.succ))
abbrev recvCell (c : Dev nD) (k : Dist) : GSem nD τ sig := ((c : Thread nD τ), .dma (recvSem k.succ))

/-- The cells of one device: the barrier, the departures, the arrivals. -/
abbrev CI : Type := Unit ⊕ (Dist ⊕ Dist)
abbrev csem : CI → SemLoc sig
  | .inl _ => .reg barSem
  | .inr (.inl k) => .dma (sendSem k.succ)
  | .inr (.inr k) => .dma (recvSem k.succ)
abbrev kcell (ck : Dev nD × CI) : GSem nD τ sig := ((ck.1 : Thread nD τ), csem ck.2)

theorem sendSem_val (s : Fin 32) : (sendSem s).val = (sendSem 0).val + s.val := by revert s; decide
theorem recvSem_val (s : Fin 32) : (recvSem s).val = (sendSem 0).val + 32 + s.val := by revert s; decide

theorem sendSem_inj {s s' : Fin 32} (h : sendSem s = sendSem s') : s = s' := by
  have := congrArg Fin.val h; rw [sendSem_val, sendSem_val s'] at this; exact Fin.ext (by omega)
theorem recvSem_inj {s s' : Fin 32} (h : recvSem s = recvSem s') : s = s' := by
  have := congrArg Fin.val h; rw [recvSem_val, recvSem_val s'] at this; exact Fin.ext (by omega)
theorem send_ne_recv (s s' : Fin 32) : sendSem s ≠ recvSem s' := fun h => by
  have := congrArg Fin.val h; rw [sendSem_val, recvSem_val s'] at this; have := s.isLt; omega

theorem csem_injective : Function.Injective csem := by
  rintro (_ | k | k) (_ | k' | k') h
  · rfl
  · cases h
  · cases h
  · cases h
  · rw [Fin.succ_injective _ (sendSem_inj (SemLoc.dma.inj h))]
  · exact absurd (SemLoc.dma.inj h) (send_ne_recv _ _)
  · cases h
  · exact absurd (SemLoc.dma.inj h).symm (send_ne_recv _ _)
  · rw [Fin.succ_injective _ (recvSem_inj (SemLoc.dma.inj h))]

/-- Which of a device's cells a semaphore is, if any. -/
def role : SemLoc sig → Option CI := Function.partialInv csem
theorem role_csem (i : CI) : role (csem i) = some i := Function.partialInv_left csem_injective i
theorem role_bar : role (.reg barSem) = some (.inl ()) := role_csem (.inl ())
theorem role_send (k : Dist) : role (.dma (sendSem k.succ)) = some (.inr (.inl k)) := role_csem (.inr (.inl k))
theorem role_recv (k : Dist) : role (.dma (recvSem k.succ)) = some (.inr (.inr k)) := role_csem (.inr (.inr k))
theorem of_role {sm : SemLoc sig} {i : CI} (h : role sm = some i) : sm = csem i :=
  ((Function.partialInv_of_injective csem_injective i sm).mp h).symm

/-- The bytes one copy moves, as its semaphores count them. -/
abbrev N : ℕ := (slot 0).view.dmaCredit
theorem N_pos : 0 < N := View.dmaCredit_pos _ (by decide)

/-! ## The schedule -/

variable (X : Dev nD → Vec F S256x256 .f32)

/-- What the signal of the device `j + 1` places on hands `c`: its slot `j + 1`, and that its arrival cell `j` is at the start. -/
def barPay (c : Dev nD) (j : Dist) : sProp 𝕄 :=
  iprop((∃ f, slotAt (shift c j) j.succ fullShare f) ∗ reached ER (recvCell (shift c j) j) 0)

/-- What the cells' payments hand over. -/
def pay (c : Dev nD) (d : Dist) : Option CI → sProp 𝕄
  | some (.inl _) => barPay c d
  | some (.inr (.inl k)) => slotAt c 0 (lent k) (gathF X c)
  | some (.inr (.inr k)) => slotAt c k.succ fullShare (gathF X c)
  | none => iprop(emp)

/-- The duties of a cell: all distances at the barrier, one at a copy's cells. -/
def dutiesAt : Option CI → Finset Dist
  | some (.inl _) => Finset.univ
  | some (.inr _) => {0}
  | none => ∅

/-- One round of payments. -/
def sched : Rounds.Schedule (GSem nD τ sig) Dist 𝕄 where
  duties g r := if r = 0 ∧ g.1.2 = .tc then dutiesAt (role g.2) else ∅
  unitless _ := False
  amount g _ _ := if g.2 = .reg barSem then 1 else N
  payload g _ d := pay X g.1.1 d (role g.2)
  amount_pos g _ _ _ := by
    by_cases h : g.2 = .reg barSem
    · rw [if_pos h]; exact Nat.one_pos
    · rw [if_neg h]; exact N_pos

instance barPay_storable (c : Dev nD) (j : Dist) : BI.Storable (upEmb : UEmb _ 𝕄) (barPay (F := F) c j) := by
  unfold barPay; infer_instance

instance sched_payload_storable (g : GSem nD τ sig) (r : ℕ) (d : Dist) :
    BI.Storable (upEmb : UEmb _ 𝕄) ((sched X).payload g r d) := by
  show BI.Storable upEmb (pay X g.1.1 d (role g.2))
  rcases role g.2 with _ | (_ | k | k)
  · show BI.Storable upEmb iprop(emp); infer_instance
  · exact barPay_storable _ _
  · exact slotAt_storable _ _ _ _
  · exact slotAt_storable _ _ _ _

section Tables
variable (c : Dev nD)

theorem duties_bar : (sched X).duties (barCell c) 0 = Finset.univ := by
  dsimp only [sched]; rw [if_pos ⟨rfl, rfl⟩, role_bar]; rfl
theorem duties_send (k : Dist) : (sched X).duties (sendCell c k) 0 = {0} := by
  dsimp only [sched]; rw [if_pos ⟨rfl, rfl⟩, role_send]; rfl
theorem duties_recv (k : Dist) : (sched X).duties (recvCell c k) 0 = {0} := by
  dsimp only [sched]; rw [if_pos ⟨rfl, rfl⟩, role_recv]; rfl
theorem duties_later (g : GSem nD τ sig) : ∀ r, 1 ≤ r → (sched X).duties g r = ∅ :=
  fun r hr => by dsimp only [sched]; rw [if_neg fun h => by omega]

theorem amount_bar (d : Dist) : (sched X).amount (barCell c) 0 d = 1 := by dsimp only [sched]; exact if_pos rfl
theorem amount_send (k d : Dist) : (sched X).amount (sendCell c k) 0 d = N := by
  dsimp only [sched]; exact if_neg fun h => by cases h
theorem amount_recv (k d : Dist) : (sched X).amount (recvCell c k) 0 d = N := by
  dsimp only [sched]; exact if_neg fun h => by cases h

theorem expect_bar : (sched X).expect (barCell c) 0 = 31 := by
  unfold Schedule.expect Schedule.amountOf
  rw [duties_bar, Finset.sum_congr rfl fun d _ => amount_bar X c d, Finset.sum_const, Finset.card_univ, Fintype.card_fin, smul_eq_mul]
theorem expect_send (k : Dist) : (sched X).expect (sendCell c k) 0 = N := by
  unfold Schedule.expect Schedule.amountOf; rw [duties_send, Finset.sum_singleton, amount_send]
theorem expect_recv (k : Dist) : (sched X).expect (recvCell c k) 0 = N := by
  unfold Schedule.expect Schedule.amountOf; rw [duties_recv, Finset.sum_singleton, amount_recv]

theorem payload_bar (d : Dist) : (sched X).payload (barCell c) 0 d = barPay c d := by dsimp only [sched]; rw [role_bar]; rfl
theorem payload_send (k d : Dist) : (sched X).payload (sendCell c k) 0 d = slotAt c 0 (lent k) (gathF X c) := by
  dsimp only [sched]; rw [role_send]; rfl
theorem payload_recv (k d : Dist) : (sched X).payload (recvCell c k) 0 d = slotAt c k.succ fullShare (gathF X c) := by
  dsimp only [sched]; rw [role_recv]; rfl

/-- A whole round's payloads, cell by cell. -/
theorem rest_bar : bigSep ((sched X).duties (barCell c) 0 \ ∅) (fun d => (sched X).payload (barCell c) 0 d)
    = bigSepL allD fun j => barPay c j := by
  rw [Finset.sdiff_empty, duties_bar, ← over_allD]
  exact bigSep_congr fun d _ => payload_bar X c d
theorem rest_send (k : Dist) : bigSep ((sched X).duties (sendCell c k) 0 \ ∅) (fun d => (sched X).payload (sendCell c k) 0 d)
    = slotAt c 0 (lent k) (gathF X c) := by
  rw [Finset.sdiff_empty, duties_send, bigSep_singleton, payload_send]
theorem rest_recv (k : Dist) : bigSep ((sched X).duties (recvCell c k) 0 \ ∅) (fun d => (sched X).payload (recvCell c k) 0 d)
    = slotAt c k.succ fullShare (gathF X c) := by
  rw [Finset.sdiff_empty, duties_recv, bigSep_singleton, payload_recv]

end Tables

/-! ## What each device owes at the start; the levels -/

/-- The arrivals device `c` still owes, for the copies of the list. -/
def owedR (c : Dev nD) : List Dist → CellTallies nD τ sig Unit
  | [] => 0
  | k :: l => owedR c l + tallyAt (recvCell (shift c k) k) () N
/-- The same with the barrier signals of a list still owed. -/
def owedB (c : Dev nD) (O : CellTallies nD τ sig Unit) : List Dist → CellTallies nD τ sig Unit
  | [] => O
  | k :: l => owedB c O l + tallyAt (barCell (shift c k)) () 1
def O₀ (c : Dev nD) : CellTallies nD τ sig Unit := owedB c (owedR c allD) allD

def L (g : GSem nD τ sig) : Finset Unit := if g.1.2 = .tc then {()} else ∅
/-- Barrier cells stand at 1, arrival cells at 2, everything else at 0. -/
def lvOf : Option CI → ℕ
  | some (.inl _) => 1
  | some (.inr (.inr _)) => 2
  | _ => 0
def lv (g : GSem nD τ sig) (_ : Unit) : ℕ := lvOf (role g.2)

theorem lv_bar (c : Dev nD) (u : Unit) : lv (barCell c) u = 1 := by unfold lv; rw [role_bar]; rfl
theorem lv_recv (c : Dev nD) (k : Dist) (u : Unit) : lv (recvCell c k) u = 2 := by unfold lv; rw [role_recv]; rfl

theorem L_of_ne (g : GSem nD τ sig) (h : g.1.2 ≠ .tc) : L g = ∅ := if_neg h
theorem L_tc (c : Dev nD) (sm : SemLoc sig) : L ((c : Thread nD τ), sm) = {()} := if_pos rfl

theorem tally_pos {g h : GSem nD τ sig} {u : Unit} {n : ℕ} (hp : 0 < (tallyAt h () n : CellTallies nD τ sig Unit) g u) : g = h := by
  rw [tallyAt_apply] at hp
  by_contra hn
  rw [if_neg fun h' => hn h'.1] at hp
  exact Nat.lt_irrefl 0 hp

theorem owedR_pos {c : Dev nD} {l : List Dist} {g : GSem nD τ sig} {u : Unit} (h : 0 < owedR c l g u) : ∃ d k, g = recvCell d k := by
  induction l with
  | nil => exact absurd h (Nat.lt_irrefl 0)
  | cons k l ih =>
    rw [owedR, Pi.add_apply, Finsupp.add_apply] at h
    rcases Nat.add_pos_iff_pos_or_pos.mp h with h | h
    · exact ih h
    · exact ⟨_, _, tally_pos h⟩
theorem owedB_pos {c : Dev nD} {O : CellTallies nD τ sig Unit} {l : List Dist} {g : GSem nD τ sig} {u : Unit} (h : 0 < owedB c O l g u) :
    0 < O g u ∨ ∃ d, g = barCell d := by
  induction l with
  | nil => exact Or.inl h
  | cons k l ih =>
    rw [owedB, Pi.add_apply, Finsupp.add_apply] at h
    rcases Nat.add_pos_iff_pos_or_pos.mp h with h | h
    · exact ih h
    · exact Or.inr ⟨_, tally_pos h⟩
theorem O₀_pos {c : Dev nD} {g : GSem nD τ sig} {u : Unit} (h : 0 < O₀ c g u) : (∃ d k, g = recvCell d k) ∨ ∃ d, g = barCell d :=
  (owedB_pos h).imp owedR_pos id

/-- A staging copy may be waited for whatever the kernel owes. -/
theorem mayWait_stage (c : Dev nD) (q : DmaSem sig) (hq : ∀ k : Dist, q ≠ recvSem k.succ) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, k, rfl⟩ | ⟨d, rfl⟩ <;> exact Finset.mem_singleton_self _)
      (fun p hp => by
        rw [Finset.mem_singleton.mp hp]
        show lvOf (role (.dma q)) ≤ 0
        rcases h : role (.dma q) with _ | (_ | k | k)
        · exact Nat.le_refl 0
        · exact absurd (of_role h) fun h => by cases h
        · exact Nat.le_refl 0
        · exact absurd (SemLoc.dma.inj (of_role h)) (hq k))
      (fun g u hg => by
        rcases O₀_pos hg with ⟨d, k, rfl⟩ | ⟨d, rfl⟩
        · rw [lv_recv]; decide
        · rw [lv_bar]; decide)
  · rw [MayWait_zero]; iintro -; iempintro

/-- At its barrier wait a device owes arrivals only, and those stand above the barrier. -/
theorem mayWait_bar (c : Dev nD) (l : List Dist) :
    (levAts L lv : sProp 𝕄) ⊢ MayWait (c : Thread nD τ) (.reg barSem) () (owedR c l) :=
  MayOwe.of_cut (L := L) (lev := lv) 1 (fun p hp => by rw [Finset.mem_singleton.mp hp, L_tc]; exact Finset.mem_singleton_self _)
    (fun g u hg => by obtain ⟨d, k, rfl⟩ := owedR_pos hg; rw [L_tc]; exact Finset.mem_singleton_self _)
    (fun p hp => by rw [Finset.mem_singleton.mp hp]; exact Nat.le_of_eq (lv_bar c ()))
    (fun g u hg => by obtain ⟨d, k, rfl⟩ := owedR_pos hg; rw [lv_recv]; decide)

end Cert.KernelIdeal.Pr

end
-- ==== Proof.KernelIdeal.Loops.lean ====
/-  The four loops of the kernel, each proved by one induction over its list of distances: what a loop
    takes, and what it leaves for the rest of the program. -/
module

public import proofs.«01_k».proof.Proof.KernelIdeal.Protocol

@[expose] public section

noncomputable section

namespace Cert.KernelIdeal.Pr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x256 .f32) (K : Dev nD × CI → ℕ)

abbrev 𝒱₀ : Variants := Variants.none

/-- The weakest precondition of a program of device `c`. -/
abbrev wpc (c : Dev nD) (P : Pg (F := F)) (Q : PUnit → sProp 𝕄) : sProp 𝕄 :=
  wp frame (wpE (defs₀ (F := F)) 𝒱₀ (c : Thread nD τ) none) Set.univ P Q

/-- All cells' invariants, and that every cell has reached its first round. -/
def records : sProp 𝕄 :=
  iprop((bigSep Finset.univ fun ck : Dev nD × CI => cellInv ER (sched X) (K ck) (kcell ck))
    ∗ bigSep Finset.univ fun ck : Dev nD × CI => reached ER (kcell ck) 0)

instance records_persistent : BI.Persistent (records X K) := by unfold records; infer_instance

theorem inv_of (ck : Dev nD × CI) : records X K ⊢ (cellInv ER (sched X) (K ck) (kcell ck) : sProp 𝕄) := by
  have h : (bigSep Finset.univ fun ck : Dev nD × CI => (cellInv ER (sched X) (K ck) (kcell ck) : sProp 𝕄)) ⊢ cellInv ER (sched X) (K ck) (kcell ck) :=
    bigSep_elim (Finset.mem_univ ck)
  unfold records; iintro ⟨H, -⟩
  iapply h; iexact H
theorem reached_of (ck : Dev nD × CI) : records X K ⊢ (reached ER (kcell ck) 0 : sProp 𝕄) := by
  have h : (bigSep Finset.univ fun ck : Dev nD × CI => (reached ER (kcell ck) 0 : sProp 𝕄)) ⊢ reached ER (kcell ck) 0 :=
    bigSep_elim (Finset.mem_univ ck)
  unfold records; iintro ⟨-, H⟩
  iapply h; iexact H

/-- What the signal at distance `k + 1` needs: its duty at the receiver and the slot it offers. -/
def sigNeed (c : Dev nD) (k : Dist) : sProp 𝕄 :=
  iprop(dutyTok ER (barCell (shift c k)) 0 k.rev ∗ ∃ f, slotAt c k.rev.succ fullShare f)

/-- The barrier signals: each hands over one slot. -/
theorem wp_sigs (c : Dev nD) (O : CellTallies nD τ sig Unit) (W : Waits sig Unit) (P : Pg (F := F)) (Q : PUnit → sProp 𝕄) (l : List Dist) :
    iprop(records X K ∗ owes (c : Thread nD τ) (owedB c O l) W ∗ bigSepL l (sigNeed c))
      ⊢ iprop((owes (c : Thread nD τ) O W -∗ wpc c P Q) -∗ wpc c (sigs c l P) Q) := by
  induction l with
  | nil => iintro ⟨-, HO, -⟩ Hk; iapply Hk; iexact HO
  | cons k l ih =>
    have hd : (⟨sigNat c k, sigNat_lt c k⟩ : Dev nD) = shift c k := Fin.ext (sigNat_eq c k)
    rw [bigSepL_cons']
    unfold sigNeed
    simp only [sigs, hd, owedB]
    iintro ⟨#HR, HO, ⟨Ht, Hs⟩, Hl⟩ Hk
    iapply (Rounds.wp_signal 𝒱₀ ER (sched X) (c : Thread nD τ) none (dst := (shift c k : Thread nD τ)) (κ := K (shift c k, .inl ()))
      (d := k.rev) (by rw [duties_bar]; exact Finset.mem_univ _) ((amount_bar X (shift c k) k.rev).trans (by decide)) () (owedB c O l) rfl)
      $$ [HO Ht Hs]
    · isplitr; · iapply (inv_of X K (shift c k, .inl ())); iexact HR
      isplitl [HO]; · iexact HO
      isplitl [Ht]; · iexact Ht
      isplitl [Hs]
      · rw [payload_bar]; unfold barPay; rw [shift_rev]
        isplitl [Hs]; · iexact Hs
        iapply (reached_of X K (c, .inr (.inr k.rev))); iexact HR
      iapply (reached_of X K (shift c k, .inl ())); iexact HR
    iintro HO
    iapply ih $$ [HO Hl]
    · isplitr; · iexact HR
      isplitl [HO]; · iexact HO
      iexact Hl
    iexact Hk

/-- What the copy at distance `k + 1` needs: its two duties, its part of slot 0 and the slot it fills. -/
def sendNeed (c : Dev nD) (k : Dist) : sProp 𝕄 :=
  iprop(dutyTok ER (sendCell c k) 0 0 ∗ dutyTok ER (recvCell (shift c k) k) 0 0
    ∗ slotAt c 0 (lent k) (gathF X c) ∗ ∃ f, slotAt (shift c k) k.succ fullShare f)

/-- The credit for the wait of a departure. -/
def doneCred (c : Dev nD) (k : Dist) : sProp 𝕄 := cred (tallyAt (sendCell c k) () N)

/-- One remote copy, whose target device is known by an equation. -/
theorem wp_send_one (c n : Dev nD) (k : Dist) (hn : n = shift c k)
    {hsc : (slot k.succ : Memref sig (Dev.tc n : Thread nD τ).2.kind .vmem S2x256 .f32).view.ref.isScScratch = false}
    {hsrc : (slot 0).view.WordExact} {hdst : (slot k.succ).view.WordExact}
    {hsem : DmaTarget.Typed .vmem (.dma (recvSem k.succ))
      (.remote (Dev.tc n : Thread nD τ) (slot k.succ) (.dma (sendSem k.succ)) hsc)}
    {Q : PUnit → sProp 𝕄} {P : PUnit → Pg (F := F)} (fd : GBuf F) (O : CellTallies nD τ sig Unit) (W : Waits sig Unit) :
    iprop(cellInv ER (sched X) (K (c, .inr (.inl k))) (sendCell c k) ∗ cellInv ER (sched X) (K (shift c k, .inr (.inr k))) (recvCell (shift c k) k)
        ∗ slotAt c 0 (lent k) (gathF X c) ∗ slotAt (shift c k) k.succ fullShare fd
        ∗ owes (c : Thread nD τ) (O + tallyAt (recvCell (shift c k) k) () N) W
        ∗ dutyTok ER (sendCell c k) 0 0 ∗ reached ER (sendCell c k) 0
        ∗ dutyTok ER (recvCell (shift c k) k) 0 0 ∗ reached ER (recvCell (shift c k) k) 0)
      ⊢ iprop(((cred (tallyAt (sendCell c k) () N) ∗ owes (c : Thread nD τ) O W) -∗ wpc c (P ⟨⟩) Q)
          -∗ wpc c (.op (.enqueueDma (slot 0) (.remote (Dev.tc n : Thread nD τ) (slot k.succ) (.dma (sendSem k.succ)) hsc) (.dma (recvSem k.succ)) hsrc hdst hsem) P) Q) := by
  subst hn
  have hN : (slot k.succ).view.amount (.dma (recvSem k.succ) : SemLoc sig) = N := rfl
  have hp₁ : (((slot 0).view.loc (c : Thread nD τ)) ↦[(slot 0).view.set]{lent k} gathF X c) ⊢ (sched X).payload (sendCell c k) 0 0 := by
    rw [payload_send]; exact BI.Entails.refl _
  have hp₂ : (((slot k.succ).view.loc (shift c k : Thread nD τ)) ↦[(slot k.succ).view.set]{fullShare}
      ((slot k.succ).view.write (Elt F) fd ((slot 0).view.read (Elt F) (gathF X c)) Finset.univ)) ⊢ (sched X).payload (recvCell (shift c k) k) 0 0 := by
    rw [payload_recv, slotAt_congr (shift c k) k.succ fullShare (fun i hi => (landing X c k fd i hi).symm)]
    exact BI.Entails.refl _
  have hd₁ : (0 : Dist) ∈ (sched X).duties (sendCell c k) 0 := by rw [duties_send]; exact Finset.mem_singleton_self _
  have hd₂ : (0 : Dist) ∈ (sched X).duties (recvCell (shift c k) k) 0 := by rw [duties_recv]; exact Finset.mem_singleton_self _
  unfold slotAt
  exact Rounds.wp_send_pointsTo 𝒱₀ ER (sched X) (c : Thread nD τ) none (c' := (shift c k : Thread nD τ)) (sS := .dma (sendSem k.succ)) (sem := .dma (recvSem k.succ)) (src := slot 0) (dst := slot k.succ) (κ₁ := K (c, .inr (.inl k))) (κ₂ := K (shift c k, .inr (.inr k)))
    (r₁ := 0) (r₂ := 0) (d₁ := 0) (d₂ := 0) (q := lent k) (fs := gathF X c) (fd := fd) hd₁ hd₂
    () () N hN (amount_send X c k 0) (amount_recv X (shift c k) k 0) O rfl (W := W) hp₁ hp₂

/-- The remote copies: each leaves the credit for its departure. -/
theorem wp_sends (c : Dev nD) (W : Waits sig Unit) (P : Pg (F := F)) (Q : PUnit → sProp 𝕄) (l : List Dist) :
    iprop(records X K ∗ owes (c : Thread nD τ) (owedR c l) W ∗ bigSepL l (sendNeed X c))
      ⊢ iprop(((owes (c : Thread nD τ) 0 W ∗ bigSepL l (doneCred c)) -∗ wpc c P Q) -∗ wpc c (sends c l P) Q) := by
  induction l with
  | nil =>
    iintro ⟨-, HO, -⟩ Hk; iapply Hk
    isplitl [HO]; · iexact HO
    iempintro
  | cons k l ih =>
    have hd : (⟨sendNat c k, sendNat_lt c k⟩ : Dev nD) = shift c k := Fin.ext (sendNat_eq c k)
    rw [bigSepL_cons', bigSepL_cons']
    unfold sendNeed
    simp only [sends, owedR]
    iintro ⟨#HR, HO, ⟨Ht, Ht', Hs, ⟨%f, Hd⟩⟩, Hl⟩ Hk
    iapply (wp_send_one X K c _ k hd f (owedR c l) W) $$ [HO Ht Ht' Hs Hd]
    · isplitr; · iapply (inv_of X K (c, .inr (.inl k))); iexact HR
      isplitr; · iapply (inv_of X K (shift c k, .inr (.inr k))); iexact HR
      isplitl [Hs]; · iexact Hs
      isplitl [Hd]; · iexact Hd
      isplitl [HO]; · iexact HO
      isplitl [Ht]; · iexact Ht
      isplitr; · iapply (reached_of X K (c, .inr (.inl k))); iexact HR
      isplitl [Ht']; · iexact Ht'
      iapply (reached_of X K (shift c k, .inr (.inr k))); iexact HR
    iintro ⟨Hc, HO⟩
    iapply ih $$ [HO Hl]
    · isplitr; · iexact HR
      isplitl [HO]; · iexact HO
      iexact Hl
    iintro ⟨HO, Hcs⟩
    iapply Hk
    isplitl [HO]; · iexact HO
    isplitl [Hc]; · unfold doneCred; iexact Hc
    iexact Hcs

/-- The device owes nothing. -/
abbrev idle (c : Dev nD) : sProp 𝕄 := iprop(∃ W, owes (c : Thread nD τ) 0 W)

/-- What the wait for an arrival needs, and what it leaves. -/
def recvNeed (c : Dev nD) (k : Dist) : sProp 𝕄 := iprop(cred (tallyAt (recvCell c k) () N) ∗ atPos ER (recvCell c k) 0 ∅ 0)
def recvPast (c : Dev nD) (k : Dist) : sProp 𝕄 := atPos ER (recvCell c k) 1 ∅ 0
/-- What the wait for a departure needs, and what it leaves. -/
def doneNeed (c : Dev nD) (k : Dist) : sProp 𝕄 := iprop(doneCred c k ∗ atPos ER (sendCell c k) 0 ∅ 0)
def donePast (c : Dev nD) (k : Dist) : sProp 𝕄 := atPos ER (sendCell c k) 1 ∅ 0

/-- The waits for the arrivals: each leaves its slot filled. -/
theorem wp_recvs (c : Dev nD) (P : Pg (F := F)) (Q : PUnit → sProp 𝕄) (l : List Dist) :
    iprop(records X K ∗ idle c ∗ bigSepL l (recvNeed c))
      ⊢ iprop(((idle c ∗ (bigSepL l fun k => slotAt c k.succ fullShare (gathF X c)) ∗ bigSepL l (recvPast c)) -∗ wpc c P Q)
          -∗ wpc c (recvs l P) Q) := by
  induction l with
  | nil =>
    iintro ⟨-, HO, -⟩ Hk; iapply Hk
    isplitl [HO]; · iexact HO
    isplitr; · iempintro
    iempintro
  | cons k l ih =>
    rw [bigSepL_cons', bigSepL_cons', bigSepL_cons']
    unfold recvNeed
    simp only [recvs]
    iintro ⟨#HR, HO, ⟨Hc, Hat⟩, Hl⟩ Hk
    icases HO with ⟨%W, HO⟩
    iapply (Rounds.wp_wait_rest_token 𝒱₀ ER (sched X) (c : Thread nD τ) none (κ := K (c, .inr (.inr k)))
      (wpE_waitDma2_eq 𝒱₀ (c : Thread nD τ) none Set.univ) (Set.mem_univ _) () (O := 0) (W := W) (R := 0) (m := 0) (T := ∅)
      (by rw [Nat.zero_add, expect_recv])) $$ [Hc HO Hat]
    · isplitr; · iapply (inv_of X K (c, .inr (.inr k))); iexact HR
      isplitl [Hc]; · iexact Hc
      isplitl [HO]; · iexact HO
      isplitr; · rw [MayWait_zero]; iempintro
      iexact Hat
    iintro ⟨HO, Hat, -, Hpay⟩
    ihave Hp := (Entails.of_eq (rest_recv X c k)) $$ Hpay
    iapply ih $$ [HO Hl]
    · isplitr; · iexact HR
      isplitl [HO]; · iexists _; iexact HO
      iexact Hl
    iintro ⟨HO, Hs, Ha⟩
    iapply Hk
    isplitl [HO]; · iexact HO
    isplitl [Hp Hs]
    · isplitl [Hp]; · iexact Hp
      iexact Hs
    isplitl [Hat]; · unfold recvPast; iexact Hat
    iexact Ha

/-- The waits for the departures: each gives back its part of slot 0. -/
theorem wp_dones (c : Dev nD) (P : Pg (F := F)) (Q : PUnit → sProp 𝕄) (l : List Dist) :
    iprop(records X K ∗ idle c ∗ bigSepL l (doneNeed c))
      ⊢ iprop(((idle c ∗ (bigSepL l fun k => slotAt c 0 (lent k) (gathF X c)) ∗ bigSepL l (donePast c)) -∗ wpc c P Q)
          -∗ wpc c (dones l P) Q) := by
  induction l with
  | nil =>
    iintro ⟨-, HO, -⟩ Hk; iapply Hk
    isplitl [HO]; · iexact HO
    isplitr; · iempintro
    iempintro
  | cons k l ih =>
    rw [bigSepL_cons', bigSepL_cons', bigSepL_cons']
    unfold doneNeed doneCred
    simp only [dones]
    iintro ⟨#HR, HO, ⟨Hc, Hat⟩, Hl⟩ Hk
    icases HO with ⟨%W, HO⟩
    iapply (Rounds.wp_wait_rest_token 𝒱₀ ER (sched X) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add, expect_send])) $$ [Hc HO Hat]
    · isplitr; · iapply (inv_of X K (c, .inr (.inl k))); iexact HR
      isplitl [Hc]; · iexact Hc
      isplitl [HO]; · iexact HO
      isplitr; · rw [MayWait_zero]; iempintro
      iexact Hat
    iintro ⟨HO, Hat, -, Hpay⟩
    ihave Hp := (Entails.of_eq (rest_send X c k)) $$ Hpay
    iapply ih $$ [HO Hl]
    · isplitr; · iexact HR
      isplitl [HO]; · iexists _; iexact HO
      iexact Hl
    iintro ⟨HO, Hs, Ha⟩
    iapply Hk
    isplitl [HO]; · iexact HO
    isplitl [Hp Hs]
    · isplitl [Hp]; · iexact Hp
      iexact Hs
    isplitl [Hat]; · unfold donePast; iexact Hat
    iexact Ha

end Cert.KernelIdeal.Pr

end
-- ==== Proof.KernelIdeal.Result.lean ====
/-  What the body reads and leaves: the rectangles of its loads and stores inside the slots, the contents its
    two stores leave in slot 0, the rows it computes from the filled buffer, and the result block they make. -/
module

public import proofs.«01_k».proof.Proof.KernelIdeal.Slots

@[expose] public section

noncomputable section

namespace Cert.KernelIdeal.Pr

open Cert.KernelIdeal Cert.KernelIdeal.Gen
open Idealize.ShloMosaic Idealize.ShloMosaic.TcCoe

variable {F : FTy → Type} [FloatOps F]

/-! ## Rectangles and slots -/

/-- A rectangle whose first coordinates are distances of the list lies in their slots. -/
theorem rect_slots {off size : Fin 3 → ℕ} {inb : ∀ a, off a + size a ≤ S32x2x256.size a} (l : List Dist)
    (h : ∀ s : Fin 32, off 0 ≤ s.val → s.val < off 0 + size 0 → ∃ k ∈ l.toFinset, k.succ = s) :
    (gath.access (Rect.unit (s := S32x2x256) off size inb)).set ⊆ slotsOf l := by
  intro i hi
  replace hi : i ∈ (Rect.unit (s := S32x2x256) off size inb).set := by rw [← View.set_slice_whole cc0_scratch0]; exact hi
  have hi := Rect.mem_set_unit.mp hi 0
  obtain ⟨k, hk, e⟩ := h (i 0) hi.1 hi.2
  exact (mem_slotsOf l i).mpr ⟨k, hk, Finset.mem_filter.mpr ⟨Finset.mem_univ _, (congrArg Fin.val e).symm⟩⟩
/-- A rectangle whose first coordinate is 0 lies in slot 0. -/
theorem rect_slot0 {off size : Fin 3 → ℕ} {inb : ∀ a, off a + size a ≤ S32x2x256.size a} (h : off 0 + size 0 = 1) :
    (gath.access (Rect.unit (s := S32x2x256) off size inb)).set ⊆ slotSet 0 := by
  intro i hi
  replace hi : i ∈ (Rect.unit (s := S32x2x256) off size inb).set := by rw [← View.set_slice_whole cc0_scratch0]; exact hi
  have hi := (Rect.mem_set_unit.mp hi 0).2
  exact Finset.mem_filter.mpr ⟨Finset.mem_univ _, by show (i 0).val = 0; omega⟩

/-! ## The stores into slot 0 -/

/-- Row `j` of slot 0. -/
abbrev row0 : Rect S32x2x256 := Rect.unit (s := S32x2x256) ![0, 0, 0] S1x1x256.size inb_S32x2x256_S1x1x256_0_0_0
abbrev row1 : Rect S32x2x256 := Rect.unit (s := S32x2x256) ![0, 1, 0] S1x1x256.size inb_S32x2x256_S1x1x256_0_1_0

theorem row0_emb (i : S32x2x256.Idx) (h0 : (i 0).val = 0) (h1 : (i 1).val = 0) :
    (gath.access row0).emb (ix3 (0 : Fin 1) (0 : Fin 1) (i 2 : Fin 256)) = i := by
  funext a; refine Fin.ext ?_; fin_cases a
  · exact h0.symm
  · exact h1.symm
  · show 0 + 1 * (i 2).val = (i 2).val; omega
theorem row1_emb (i : S32x2x256.Idx) (h0 : (i 0).val = 0) (h1 : (i 1).val = 1) :
    (gath.access row1).emb (ix3 (0 : Fin 1) (0 : Fin 1) (i 2 : Fin 256)) = i := by
  funext a; refine Fin.ext ?_; fin_cases a
  · exact h0.symm
  · exact h1.symm
  · show 0 + 1 * (i 2).val = (i 2).val; omega

variable (X : Dev nD → Vec F S256x256 .f32)

/-- The buffer after the two stores into slot 0. -/
abbrev stored (c : Dev nD) (f : GBuf F) : GBuf F :=
  (gath.access row1).write (Elt F) ((gath.access row0).write (Elt F) f (k0_pay4 (X c)) Finset.univ) (k0_pay5 (posWord c) (X c)) Finset.univ

theorem stored_eq (c : Dev nD) (f : GBuf F) : ∀ i ∈ slotSet 0, stored X c f i = gathF X c i := by
  intro i hi
  have h0 : (i 0).val = 0 := (Finset.mem_filter.mp hi).2
  have hs : src c (i 0) = c := by
    have e : (i 0 : Fin 32) = (0 : Fin 32) := Fin.ext h0
    exact (congrArg (src c) e).trans (src_zero c)
  have h1 : (i 1).val < 2 := (i 1).isLt
  unfold stored gathF
  rw [hs]
  by_cases h : (i 1).val = 0
  · rw [if_pos h, View.write_of_not_mem]
    · conv_lhs => rw [← row0_emb i h0 h]
      exact (View.write_emb_of_mem _ _ (Finset.mem_univ _)).trans (cast_eq _ _)
    · intro hm
      replace hm : i ∈ row1.set := by rw [← View.set_slice_whole cc0_scratch0]; exact hm
      have := (Rect.mem_set_unit.mp hm 1).1
      have h' : 1 ≤ (i 1).val := this
      omega
  · rw [if_neg h]
    conv_lhs => rw [← row1_emb i h0 (by omega)]
    exact (View.write_emb_of_mem _ _ (Finset.mem_univ _)).trans (cast_eq _ _)

/-! ## The rows read and the result -/

section Rows
variable (G : GBuf F)

/-- The rows of a group of eight slots, and of the last group of seven. -/
def rd8 (lo j : ℕ) (inb : ∀ a, (![lo, j, 0] : Fin 3 → ℕ) a + S8x1x256.size a ≤ S32x2x256.size a) : Vec F S8x1x256 .f32 :=
  (gath.access (Rect.unit (s := S32x2x256) ![lo, j, 0] S8x1x256.size inb)).read (Elt F) G
def rd7 (lo j : ℕ) (inb : ∀ a, (![lo, j, 0] : Fin 3 → ℕ) a + S7x1x256.size a ≤ S32x2x256.size a) : Vec F S7x1x256 .f32 :=
  (gath.access (Rect.unit (s := S32x2x256) ![lo, j, 0] S7x1x256.size inb)).read (Elt F) G

def u1 : Vec F S8x1x256 .f32 := rd8 G 1 0 inb_S32x2x256_S8x1x256_1_0_0
def w1 : Vec F S8x1x256 .f32 := rd8 G 1 1 inb_S32x2x256_S8x1x256_1_1_0
def u2 : Vec F S8x1x256 .f32 := rd8 G 9 0 inb_S32x2x256_S8x1x256_9_0_0
def w2 : Vec F S8x1x256 .f32 := rd8 G 9 1 inb_S32x2x256_S8x1x256_9_1_0
def u3 : Vec F S8x1x256 .f32 := rd8 G 17 0 inb_S32x2x256_S8x1x256_17_0_0
def w3 : Vec F S8x1x256 .f32 := rd8 G 17 1 inb_S32x2x256_S8x1x256_17_1_0
def u4 : Vec F S7x1x256 .f32 := rd7 G 25 0 inb_S32x2x256_S7x1x256_25_0_0
def w4 : Vec F S7x1x256 .f32 := rd7 G 25 1 inb_S32x2x256_S7x1x256_25_1_0

/-- The running maxima and row numbers after each group, `x` the device's own block and `p` its ring position. -/
def mx1 (x : Vec F S256x256 .f32) := k0_pay8 (k0_pay2 x) (u1 G)
def nx1 (p : BitVec 32) (x : Vec F S256x256 .f32) := k0_pay9 (k0_pay2 x) (k0_pay3 p x) (u1 G) (w1 G)
def mx2 (x : Vec F S256x256 .f32) := k0_pay12 (mx1 G x) (u2 G)
def nx2 (p : BitVec 32) (x : Vec F S256x256 .f32) := k0_pay13 (mx1 G x) (nx1 G p x) (u2 G) (w2 G)
def mx3 (x : Vec F S256x256 .f32) := k0_pay16 (mx2 G x) (u3 G)
def nx3 (p : BitVec 32) (x : Vec F S256x256 .f32) := k0_pay17 (mx2 G x) (nx2 G p x) (u3 G) (w3 G)
/-- The two rows of the result. -/
def rowMax (x : Vec F S256x256 .f32) : Vec F S1x256 .f32 := k0_pay20 (mx3 G x) (u4 G)
def rowIdx (p : BitVec 32) (x : Vec F S256x256 .f32) : Vec F S1x256 .f32 := k0_pay21 (mx3 G x) (nx3 G p x) (u4 G) (w4 G)

end Rows

/-- The two rows as one block. -/
def rows (a b : Vec F S1x256 .f32) : (cc0_stg1_0 : Ref sig .tc).ty.Contents (Elt F) := fun i : S2x256.Idx =>
  if (i 0).val = 0 then a (ix2 (0 : Fin 1) (i 1 : Fin 256)) else b (ix2 (0 : Fin 1) (i 1 : Fin 256))

/-- Device `c`'s result. -/
def outAt (c : Dev nD) : (cc0_stg1_0 : Ref sig .tc).ty.Contents (Elt F) :=
  rows (rowMax (gathF X c) (X c)) (rowIdx (gathF X c) (posWord c) (X c))

abbrev oM : Memref sig .tc .vmem S2x256 .f32 := Memref.whole cc0_stg1_0
abbrev xM : Memref sig .tc .vmem S256x256 .f32 := Memref.whole cc0_stg0_0
abbrev out0 : Rect S2x256 := Rect.unit (s := S2x256) ![0, 0] S1x256.size inb_S2x256_S1x256_0_0
abbrev out1 : Rect S2x256 := Rect.unit (s := S2x256) ![1, 0] S1x256.size inb_S2x256_S1x256_1_0

theorem out0_emb (i : S2x256.Idx) (h0 : (i 0).val = 0) : (oM.access out0).emb (ix2 (0 : Fin 1) (i 1 : Fin 256)) = i := by
  funext a; refine Fin.ext ?_; fin_cases a
  · exact h0.symm
  · show 0 + 1 * (i 1).val = (i 1).val; omega
theorem out1_emb (i : S2x256.Idx) (h0 : (i 0).val = 1) : (oM.access out1).emb (ix2 (0 : Fin 1) (i 1 : Fin 256)) = i := by
  funext a; refine Fin.ext ?_; fin_cases a
  · exact h0.symm
  · show 0 + 1 * (i 1).val = (i 1).val; omega

/-- The two stores of the result leave the block of the two rows. -/
theorem write_rows (f : (cc0_stg1_0 : Ref sig .tc).ty.Contents (Elt F)) (a b : Vec F S1x256 .f32) :
    (oM.access out1).write (Elt F) ((oM.access out0).write (Elt F) f a Finset.univ) b Finset.univ = rows a b := by
  refine funext fun i : S2x256.Idx => ?_
  have h1 : (i 0).val < 2 := (i 0).isLt
  unfold rows
  by_cases h : (i 0).val = 0
  · rw [if_pos h, View.write_of_not_mem]
    · conv_lhs => rw [← out0_emb i h]
      exact (View.write_emb_of_mem _ _ (Finset.mem_univ _)).trans (cast_eq _ _)
    · intro hm
      replace hm : i ∈ out1.set := by rw [← View.set_slice_whole cc0_stg1_0]; exact hm
      have h' : 1 ≤ (i 0).val := (Rect.mem_set_unit.mp hm 0).1
      omega
  · rw [if_neg h]
    conv_lhs => rw [← out1_emb i (by omega)]
    exact (View.write_emb_of_mem _ _ (Finset.mem_univ _)).trans (cast_eq _ _)

/-- The load of the whole block reads it. -/
theorem read_x (f : (cc0_stg0_0 : Ref sig .tc).ty.Contents (Elt F)) :
    (xM : Memref sig .tc .vmem S256x256 .f32).view.readAt (Elt F) (Rect.unit (s := S256x256) ![0, 0] S256x256.size inb_S256x256_S256x256_0_0).toLoadRect f = f :=
  Memref.readAt_unit_zero (Elt F) cc0_stg0_0 (funext fun a => by fin_cases a <;> rfl) _ f

end Cert.KernelIdeal.Pr

end
-- ==== Proof.KernelIdeal.Body.lean ====
/-  The body of one device, from the loops: the first half (signals, local maxima, barrier, copies), the second half
    (arrivals, combination, result, departures), and the closing of the device's own cells. -/
module

public import proofs.«01_k».proof.Proof.KernelIdeal.Loops
public import proofs.«01_k».proof.Proof.KernelIdeal.Result
public import Idealize.ShloMosaic.Lib.Rounds.Family
public import Idealize.ShloMosaic.Lib.Pipeline.CollectiveSegs

@[expose] public section

noncomputable section

namespace Cert.KernelIdeal.Pr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x256 .f32) (K : Dev nD × CI → ℕ)

/-- A whole buffer of device `c` held with contents `f`. -/
abbrev held (c : Dev nD) (b : Ref sig .tc) (f : Buf (Elt F) ((c : Thread nD τ).loc b)) : sProp 𝕄 :=
  ((c : Thread nD τ).loc b) ↦{fullShare} f

/-- A filled group of slots, held as one set of elements. -/
abbrev group (c : Dev nD) (l : List Dist) : sProp 𝕄 :=
  ((c : Thread nD τ).loc cc0_scratch0) ↦[slotsOf l]{fullShare} gathF X c

/-- The slots a device offers, in the order of its signals. -/
theorem offered (c : Dev nD) (f : GBuf F) :
    (bigSep Finset.univ fun k : Dist => slotAt c k.succ fullShare f : sProp 𝕄)
      ⊢ bigSepL allD fun k => iprop(∃ f, slotAt c k.rev.succ fullShare f) := by
  rw [← over_allD, bigSep_univ_equiv Fin.revPerm (fun k : Dist => (slotAt c k.succ fullShare f : sProp 𝕄))]
  exact bigSep_mono fun k _ => show (slotAt c k.rev.succ fullShare f : sProp 𝕄) ⊢ iprop(∃ f, slotAt c k.rev.succ fullShare f) by iintro H; iexists f; iexact H

/-- What a device takes into the first half beside its cells' records. -/
def firstNeed (c : Dev nD) : sProp 𝕄 :=
  iprop(atPos ER (barCell c) 0 ∅ 0 ∗ cred (tallyAt (barCell c) () 31) ∗ levAts L lv
    ∗ (bigSepL allD fun k => dutyTok ER (barCell (shift c k)) 0 k.rev)
    ∗ (bigSepL allD fun k => dutyTok ER (sendCell c k) 0 0) ∗ (bigSepL allD fun k => dutyTok ER (recvCell (shift c k) k) 0 0))

set_option maxHeartbeats 800000 in
/-- The first half: signals, local maxima into slot 0, barrier, copies. -/
theorem wp_first (c : Dev nD) (f : GBuf F) (W : Waits sig Unit) (P : Vec F S256x256 .f32 → Pg (F := F)) (Q : PUnit → sProp 𝕄) :
    iprop(records X K ∗ firstNeed c ∗ owes (c : Thread nD τ) (O₀ c) W ∗ held c cc0_stg0_0 (X c) ∗ held c cc0_scratch0 f)
      ⊢ iprop(((held c cc0_stg0_0 (X c) ∗ idle c ∗ bigSepL allD (doneCred c) ∗ slotAt c 0 (Transfers.shareDrop fullShare 31) (gathF X c)
            ∗ atPos ER (barCell c) 1 ∅ 0) -∗ wpc c (P (X c)) Q)
          -∗ wpc c (body1 c xM P) Q) := by
  unfold firstNeed body1
  iintro ⟨#HR, ⟨HatB, HcB, #Hlev, Htb, Hts, Htr⟩, HO, Hx, Hscr⟩ Hk
  ihave Hscr := (Entails.of_eq (whole_slots c f)) $$ Hscr
  icases Hscr with ⟨Hs0, Hs⟩
  ihave Hs' := (offered c f) $$ Hs
  unfold O₀
  iapply (wp_sigs X K c (owedR c allD) W _ Q allD) $$ [HO Htb Hs']
  · isplitr; · iexact HR
    isplitl [HO]; · iexact HO
    unfold sigNeed; rw [list_sep]
    isplitl [Htb]; · iexact Htb
    iexact Hs'
  iintro HO
  iapply (wp_load 𝒱₀ (c : Thread nD τ) none Set.univ (m := xM) (Finset.subset_univ _)) $$ Hx; iintro Hx
  rw [read_x]
  ihave Hs0 := (Entails.of_eq (slotAt_eq c 0 fullShare f)) $$ Hs0
  iapply (wp_load_rect 𝒱₀ (c : Thread nD τ) none Set.univ (m := gath) (r := row0) (rect_slot0 rfl)) $$ Hs0; iintro Hs0
  iapply (wp_store 𝒱₀ (c : Thread nD τ) none Set.univ (m := gath) (r := row0) (Mk := Finset.univ) (rect_slot0 rfl)) $$ Hs0; iintro Hs0
  iapply (wp_load_rect 𝒱₀ (c : Thread nD τ) none Set.univ (m := gath) (r := row1) (rect_slot0 rfl)) $$ Hs0; iintro Hs0
  iapply (wp_store 𝒱₀ (c : Thread nD τ) none Set.univ (m := gath) (r := row1) (Mk := Finset.univ) (rect_slot0 rfl)) $$ Hs0; iintro Hs0
  ihave Hs0 := (show ((gath.access row1).loc (c : Thread nD τ) ↦[slotSet 0]{fullShare} stored X c f : sProp 𝕄) ⊢ slotAt c 0 fullShare (gathF X c) from
    (Entails.of_eq (slotAt_eq c 0 fullShare (stored X c f)).symm).trans (Entails.of_eq (slotAt_congr c 0 fullShare (stored_eq X c f)))) $$ Hs0
  ihave Hs0 := (Entails.of_eq (slot0_lend c (gathF X c))) $$ Hs0
  icases Hs0 with ⟨Hs0, Hlent⟩
  iapply (Rounds.wp_wait_rest_token 𝒱₀ ER (sched X) (c : Thread nD τ) none (κ := K (c, .inl ()))
      (wpE_semWait_eq 𝒱₀ (c : Thread nD τ) none Set.univ) (Set.mem_univ _) () (O := owedR c allD) (W := W) (R := 0) (m := 0) (T := ∅)
      (by rw [expect_bar])) $$ [HcB HO HatB]
  · isplitr; · iapply (inv_of X K (c, .inl ())); iexact HR
    isplitl [HcB]; · iexact HcB
    isplitl [HO]; · iexact HO
    isplitr; · iapply (mayWait_bar c allD); iexact Hlev
    iexact HatB
  iintro ⟨HO, HatB, -, Hpay⟩
  ihave Hp := (Entails.of_eq ((rest_bar X c).trans (list_sep allD _ _))) $$ Hpay
  icases Hp with ⟨Hslots, -⟩
  iapply (wp_sends X K c (insert (SemLoc.reg barSem, ()) W) _ Q allD) $$ [HO Hts Htr Hlent Hslots]
  · isplitr; · iexact HR
    isplitl [HO]; · iexact HO
    unfold sendNeed
    simp only [list_sep]
    isplitl [Hts]; · iexact Hts
    isplitl [Htr]; · iexact Htr
    isplitl [Hlent]; · iexact Hlent
    iexact Hslots
  iintro ⟨HO, Hcs⟩
  iapply Hk
  isplitl [Hx]; · iexact Hx
  isplitl [HO]; · iexists _; iexact HO
  isplitl [Hcs]; · iexact Hcs
  isplitl [Hs0]; · iexact Hs0
  iexact HatB

/-- All distances, group by group. -/
theorem by_groups (Φ : Dist → sProp 𝕄) :
    bigSepL allD Φ = iprop(bigSepL grp1 Φ ∗ bigSepL grp2 Φ ∗ bigSepL grp3 Φ ∗ bigSepL grp4 Φ) := by
  rw [← bigSepL_append, ← bigSepL_append, ← bigSepL_append]; rfl

set_option maxHeartbeats 1600000 in
/-- The second half: the arrivals group by group, the result, the departures. -/
theorem wp_second (c : Dev nD) (g : Buf (Elt F) ((c : Thread nD τ).loc cc0_stg1_0)) (Q : PUnit → sProp 𝕄) :
    iprop(records X K ∗ idle c ∗ bigSepL allD (recvNeed c) ∗ bigSepL allD (doneNeed c) ∗ held c cc0_stg1_0 g
        ∗ slotAt c 0 (Transfers.shareDrop fullShare 31) (gathF X c))
      ⊢ iprop(((idle c ∗ held c cc0_stg1_0 (outAt X c) ∗ held c cc0_scratch0 (gathF X c)
            ∗ bigSepL allD (recvPast c) ∗ bigSepL allD (donePast c)) -∗ wpc c (.ret ⟨⟩) Q)
          -∗ wpc c (body2 c oM (X c)) Q) := by
  unfold body2
  iintro ⟨#HR, HO, Hrn, Hdn, Hout, Hs0⟩ Hk
  ihave Hrn := (Entails.of_eq (by_groups (recvNeed c))) $$ Hrn
  icases Hrn with ⟨Hr1, Hr2, Hr3, Hr4⟩
  iapply (wp_recvs X K c _ Q grp1) $$ [HO Hr1]
  · isplitr; · iexact HR
    isplitl [HO] <;> iassumption
  iintro ⟨HO, Hg1, Hp1⟩
  ihave Hg1 := (Entails.of_eq (slots_union c grp1 (by decide) (gathF X c))) $$ Hg1
  iapply (wp_load_rect 𝒱₀ (c : Thread nD τ) none Set.univ (m := gath)
    (r := Rect.unit (s := S32x2x256) ![1, 0, 0] S8x1x256.size inb_S32x2x256_S8x1x256_1_0_0) (rect_slots grp1 (by decide))) $$ Hg1; iintro Hg1
  iapply (wp_load_rect 𝒱₀ (c : Thread nD τ) none Set.univ (m := gath)
    (r := Rect.unit (s := S32x2x256) ![1, 1, 0] S8x1x256.size inb_S32x2x256_S8x1x256_1_1_0) (rect_slots grp1 (by decide))) $$ Hg1; iintro Hg1
  iapply (wp_recvs X K c _ Q grp2) $$ [HO Hr2]
  · isplitr; · iexact HR
    isplitl [HO] <;> iassumption
  iintro ⟨HO, Hg2, Hp2⟩
  ihave Hg2 := (Entails.of_eq (slots_union c grp2 (by decide) (gathF X c))) $$ Hg2
  iapply (wp_load_rect 𝒱₀ (c : Thread nD τ) none Set.univ (m := gath)
    (r := Rect.unit (s := S32x2x256) ![9, 0, 0] S8x1x256.size inb_S32x2x256_S8x1x256_9_0_0) (rect_slots grp2 (by decide))) $$ Hg2; iintro Hg2
  iapply (wp_load_rect 𝒱₀ (c : Thread nD τ) none Set.univ (m := gath)
    (r := Rect.unit (s := S32x2x256) ![9, 1, 0] S8x1x256.size inb_S32x2x256_S8x1x256_9_1_0) (rect_slots grp2 (by decide))) $$ Hg2; iintro Hg2
  iapply (wp_recvs X K c _ Q grp3) $$ [HO Hr3]
  · isplitr; · iexact HR
    isplitl [HO] <;> iassumption
  iintro ⟨HO, Hg3, Hp3⟩
  ihave Hg3 := (Entails.of_eq (slots_union c grp3 (by decide) (gathF X c))) $$ Hg3
  iapply (wp_load_rect 𝒱₀ (c : Thread nD τ) none Set.univ (m := gath)
    (r := Rect.unit (s := S32x2x256) ![17, 0, 0] S8x1x256.size inb_S32x2x256_S8x1x256_17_0_0) (rect_slots grp3 (by decide))) $$ Hg3; iintro Hg3
  iapply (wp_load_rect 𝒱₀ (c : Thread nD τ) none Set.univ (m := gath)
    (r := Rect.unit (s := S32x2x256) ![17, 1, 0] S8x1x256.size inb_S32x2x256_S8x1x256_17_1_0) (rect_slots grp3 (by decide))) $$ Hg3; iintro Hg3
  iapply (wp_recvs X K c _ Q grp4) $$ [HO Hr4]
  · isplitr; · iexact HR
    isplitl [HO] <;> iassumption
  iintro ⟨HO, Hg4, Hp4⟩
  ihave Hg4 := (Entails.of_eq (slots_union c grp4 (by decide) (gathF X c))) $$ Hg4
  iapply (wp_load_rect 𝒱₀ (c : Thread nD τ) none Set.univ (m := gath)
    (r := Rect.unit (s := S32x2x256) ![25, 0, 0] S7x1x256.size inb_S32x2x256_S7x1x256_25_0_0) (rect_slots grp4 (by decide))) $$ Hg4; iintro Hg4
  iapply (wp_load_rect 𝒱₀ (c : Thread nD τ) none Set.univ (m := gath)
    (r := Rect.unit (s := S32x2x256) ![25, 1, 0] S7x1x256.size inb_S32x2x256_S7x1x256_25_1_0) (rect_slots grp4 (by decide))) $$ Hg4; iintro Hg4
  iapply (wp_load 𝒱₀ (c : Thread nD τ) none Set.univ (m := oM) (Finset.subset_univ _)) $$ Hout; iintro Hout
  iapply (wp_store 𝒱₀ (c : Thread nD τ) none Set.univ (m := oM) (r := out0) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := out1) (Mk := Finset.univ) (Finset.subset_univ _)) $$ Hout; iintro Hout
  rw [write_rows]
  iapply (wp_dones X K c _ Q allD) $$ [HO Hdn]
  · isplitr; · iexact HR
    isplitl [HO] <;> iassumption
  iintro ⟨HO, Hlent, Hdp⟩
  iapply Hk
  isplitl [HO]; · iexact HO
  isplitl [Hout]; · iexact Hout
  isplitl [Hs0 Hlent Hg1 Hg2 Hg3 Hg4]
  · iapply (Entails.of_eq (whole_slots c (gathF X c)).symm)
    isplitl [Hs0 Hlent]
    · iapply (Entails.of_eq (slot0_lend c (gathF X c)).symm)
      isplitl [Hs0] <;> iassumption
    rw [over_allD, by_groups, slots_union c grp1 (by decide), slots_union c grp2 (by decide), slots_union c grp3 (by decide), slots_union c grp4 (by decide)]
    isplitl [Hg1]; · iexact Hg1
    isplitl [Hg2]; · iexact Hg2
    isplitl [Hg3]; · iexact Hg3
    iexact Hg4
  isplitl [Hp1 Hp2 Hp3 Hp4]
  · rw [by_groups]
    isplitl [Hp1]; · iexact Hp1
    isplitl [Hp2]; · iexact Hp2
    isplitl [Hp3]; · iexact Hp3
    iexact Hp4
  iexact Hdp

/-! ## Closing the cells -/

/-- A finished family of a device's cells closes: every counter is at zero and the device's again. -/
theorem close_all (c : Dev nD) (i : Dist → CI) :
    iprop(records X K ∗ bigSepL allD fun k => atPos ER (kcell (c, i k)) 1 ∅ 0)
      ⊢ (|={Set.univ}=> bigSep Finset.univ fun k : Dist => semVal (kcell (c, i k)) 0 : sProp 𝕄) := by
  rw [← over_allD]
  have h (k : Dist) : iprop(records X K ∗ atPos ER (kcell (c, i k)) 1 ∅ 0) ⊢ (|={Set.univ}=> semVal (kcell (c, i k)) 0 : sProp 𝕄) :=
    (sep_mono_left (inv_of X K (c, i k))).trans
      (Rounds.cell_close ER (sched X) (Set.mem_univ (K (c, i k))) (fun h => h) (R := 1) (duties_later X (kcell (c, i k))))
  exact (bigSep_with_persistent (R := records X K) fun k _ => h k).trans (bigSep_fupd _ _)

end Cert.KernelIdeal.Pr

end
-- ==== Proof.KernelIdeal.Data.lean ====
/-  The pipeline's proof data for the kernel's one grid point, and the library's body obligation from the two halves
    of the body. -/
module

public import proofs.«01_k».proof.Proof.KernelIdeal.Body

@[expose] public section

noncomputable section

namespace Cert.KernelIdeal.Pr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every counter zero. -/
def st₀ : MemSt nD τ sig (Elt F) := ⟨m, fun _ => 0, ρ⟩

/-- Device `c`'s block of the argument, as staged. -/
def xstg (c : Dev nD) : Vec F S256x256 .f32 :=
  (win0_0.blk (0 : Fin 1)).view.read (Elt F) ((st₀ m ρ).mem ((c : Thread nD τ).loc main_arg0))

/-- A device's ghost state: the records of all cells, its positions at its own cells, the duties it pays. -/
def ghost (K : Dev nD × CI → ℕ) (c : Dev nD) : sProp 𝕄 :=
  iprop(records (xstg m ρ) K
    ∗ (atPos ER (barCell c) 0 ∅ 0 ∗ (bigSep Finset.univ fun k => atPos ER (sendCell c k) 0 ∅ 0) ∗ (bigSep Finset.univ fun k => atPos ER (recvCell c k) 0 ∅ 0))
    ∗ (bigSep Finset.univ fun k => dutyTok ER (barCell (shift c k)) 0 k.rev)
    ∗ (bigSep Finset.univ fun k => dutyTok ER (sendCell c k) 0 0) ∗ (bigSep Finset.univ fun k => dutyTok ER (recvCell (shift c k) k) 0 0))

/-- The two counters of the semaphore arrays the kernel leaves alone. -/
def spare (c : Dev nD) : sProp 𝕄 :=
  iprop(semVal ((c : Thread nD τ), .dma (sendSem 0)) 0 ∗ semVal ((c : Thread nD τ), .dma (recvSem 0)) 0)

/-- The credits a device starts with: its barrier's units and its arrivals. -/
def credits (c : Dev nD) : sProp 𝕄 :=
  iprop(cred (tallyAt (barCell c) () 31) ∗ bigSep Finset.univ fun k => cred (tallyAt (recvCell c k) () N))

/-- What a device's body starts from, and what it ends with. -/
def start (c : Dev nD) : sProp 𝕄 := iprop(((∃ K, ghost m ρ K c) ∗ spare c) ∗ credits c ∗ levAts L lv)
def Φ₀ (c : Dev nD) : sProp 𝕄 := iprop(start m ρ c ∗ ∃ f, held c cc0_scratch0 f)
def Φ₁ (c : Dev nD) : sProp 𝕄 :=
  iprop((∃ f, held c cc0_scratch0 f) ∗ spare c ∗ (bigSep Finset.univ fun k => semVal (sendCell c k) 0)
    ∗ (bigSep Finset.univ fun k => semVal (recvCell c k) 0) ∗ semVal (barCell c) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m ρ c
    | ⟨1, _⟩ => outAt (xstg m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ held c b f) := by
  unfold owns; simp only [Memref.view_whole, View.read_whole, View.set_whole]

/-- A staging buffer held with known contents. -/
abbrev stg (c : Dev nD) (b : Ref sig .tc) (Y : b.ty.Contents (Elt F)) : sProp 𝕄 :=
  iprop(∃ f : Buf (Elt F) ((c : Thread nD τ).loc b), ⌜f = Y⌝ ∗ held c b f)

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ c ∗ (dats m ρ 0 c).owesAt () t0_0.succ ∗ stg c cc0_stg0_0 (xstg m ρ c) ∗ stg c cc0_stg1_0 (outAt (xstg m ρ) c))

set_option maxHeartbeats 1600000 in
/-- The printed body on device `c`, from its start to its end. -/
theorem sound_body (c : Dev nD) :
    bodyPre m ρ c ⊢ wpc c (cc0_body (F := F) xM (Memref.isWhole_whole _) oM (Memref.isWhole_whole _)
      (Memref.whole cc0_scratch0) (Memref.isWhole_whole _) cc0_scratch1 cc0_scratch2) fun _ => bodyPost m ρ c := by
  rw [body_eq]
  simp only [wpc, wp_deviceId]
  unfold bodyPre Φ₀ start ghost credits
  iintro ⟨⟨⟨⟨⟨%K, #HR, ⟨HatB, HatS, HatV⟩, Htb, Hts, Htr⟩, Hsp⟩, ⟨HcB, HcV⟩, #Hlev⟩, ⟨%f, Hscr⟩⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply (wp_first (xstg m ρ) K c f W (fun x => body2 c oM x) _) $$ [HatB HcB Htb Hts Htr HO Hx Hscr]
  · isplitr; · iexact HR
    isplitl [HatB HcB Htb Hts Htr]
    · unfold firstNeed
      isplitl [HatB]; · iexact HatB
      isplitl [HcB]; · iexact HcB
      isplitr; · iexact Hlev
      simp only [← over_allD]
      isplitl [Htb]; · iexact Htb
      isplitl [Hts]; · iexact Hts
      iexact Htr
    isplitl [HO]; · iexact HO
    isplitl [Hx]; · iexact Hx
    iexact Hscr
  iintro ⟨Hx, HO, Hdc, Hs0, HatB⟩
  iapply (wp_second (xstg m ρ) K c g1 _) $$ [HatS HatV HcV HO Hdc Hs0 Hout]
  · isplitr; · iexact HR
    isplitl [HO]; · iexact HO
    isplitl [HcV HatV]
    · unfold recvNeed; rw [list_sep]; simp only [← over_allD]
      isplitl [HcV]; · iexact HcV
      iexact HatV
    isplitl [Hdc HatS]
    · unfold doneNeed; rw [list_sep]
      isplitl [Hdc]; · iexact Hdc
      rw [← over_allD]; iexact HatS
    isplitl [Hout]; · iexact Hout
    iexact Hs0
  iintro ⟨HO, Hout, Hscr, HatV, HatS⟩
  imod (close_all (xstg m ρ) K c (fun k => .inr (.inl k))) $$ [HatS] with HzS
  · isplitr; · iexact HR
    unfold donePast; iexact HatS
  imod (close_all (xstg m ρ) K c (fun k => .inr (.inr k))) $$ [HatV] with HzV
  · isplitr; · iexact HR
    unfold recvPast; iexact HatV
  imod (Rounds.cell_close ER (sched (xstg m ρ)) (Set.mem_univ (K (c, .inl ()))) (fun h => h) (R := 1) (duties_later (xstg m ρ) (barCell c))) $$ [HatB] with HzB
  · isplitr; · iapply (inv_of (xstg m ρ) K (c, .inl ())); iexact HR
    iexact HatB
  rw [wp_ret]; imodintro
  unfold bodyPost Φ₁ Dat.owesAt Pipeline.owesWithin
  rw [show (dats m ρ 0 c).owed t0_0.succ = 0 from rfl]
  isplitl [Hscr Hsp HzS HzV HzB]
  · isplitl [Hscr]; · iexists _; iexact Hscr
    isplitl [Hsp]; · iexact Hsp
    isplitl [HzS]; · iexact HzS
    isplitl [HzV] <;> iassumption
  isplitl [HO]
  · icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 20000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpc c (cc0_body (F := F) xM (Memref.isWhole_whole _) oM (Memref.isWhole_whole _)
      (Memref.whole cc0_scratch0) (Memref.isWhole_whole _) cc0_scratch1 cc0_scratch2) fun _ => bodyPost m ρ c
  exact sound_body m ρ c

end Cert.KernelIdeal.Pr

end
-- ==== Proof.KernelIdeal.Ghost.lean ====
/-  The ghost state of the launch: the cells and tokens minted, the invariants allocated for every device at once,
    and the tokens dealt to the devices that pay the duties. -/
module

public import proofs.«01_k».proof.Proof.KernelIdeal.Data

@[expose] public section

noncomputable section

namespace Cert.KernelIdeal.Pr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's scoped semaphores: the two it leaves alone, the departures, the arrivals. -/
abbrev OI : Type := (Unit ⊕ Unit) ⊕ (Dist ⊕ Dist)
abbrev osem : OI → SemLoc sig
  | .inl (.inl _) => .dma (sendSem 0)
  | .inl (.inr _) => .dma (recvSem 0)
  | .inr (.inl k) => .dma (sendSem k.succ)
  | .inr (.inr k) => .dma (recvSem k.succ)

theorem osem_injective : Function.Injective osem := by
  have hz (k : Dist) : (0 : Fin 32) ≠ k.succ := (Fin.succ_ne_zero k).symm
  rintro ((_ | _) | (k | k)) ((_ | _) | (k' | k')) h
  · rfl
  · exact absurd (SemLoc.dma.inj h) (send_ne_recv _ _)
  · exact absurd (sendSem_inj (SemLoc.dma.inj h)) (hz _)
  · exact absurd (SemLoc.dma.inj h) (send_ne_recv _ _)
  · exact absurd (SemLoc.dma.inj h).symm (send_ne_recv _ _)
  · rfl
  · exact absurd (SemLoc.dma.inj h).symm (send_ne_recv _ _)
  · exact absurd (recvSem_inj (SemLoc.dma.inj h)) (hz _)
  · exact absurd (sendSem_inj (SemLoc.dma.inj h)).symm (hz _)
  · exact absurd (SemLoc.dma.inj h) (send_ne_recv _ _)
  · rw [Fin.succ_injective _ (sendSem_inj (SemLoc.dma.inj h))]
  · exact absurd (SemLoc.dma.inj h) (send_ne_recv _ _)
  · exact absurd (SemLoc.dma.inj h).symm (send_ne_recv _ _)
  · exact absurd (recvSem_inj (SemLoc.dma.inj h)).symm (hz _)
  · exact absurd (SemLoc.dma.inj h).symm (send_ne_recv _ _)
  · rw [Fin.succ_injective _ (recvSem_inj (SemLoc.dma.inj h))]

theorem ownSemFacts : Pipeline.OwnSemFacts cfg0.spec osem :=
  ⟨by decide, osem_injective, by decide⟩

theorem ownSems0_eq (c : Dev nD) : (Pipeline.ownSems0 (Ix := Unit) (Name := ℕ) (U := UU) (Lvl := ℕ) (Val := Elt F) (τ := τ) osem c : sProp 𝕄)
    = iprop(spare c ∗ (bigSep Finset.univ fun k => semVal (sendCell c k) 0) ∗ bigSep Finset.univ fun k => semVal (recvCell c k) 0) := by
  unfold Pipeline.ownSems0 spare
  rw [bigSep_univ_sum, bigSep_univ_sum, bigSep_univ_sum, Finset.univ_unique, bigSep_singleton, bigSep_singleton]
  rfl
theorem unscopedSems0_eq (c : Dev nD) : (unscopedSems0 c : sProp 𝕄) = semVal (barCell c) 0 := by
  unfold unscopedSems0; rw [bigSep_eq_bigSepL_of_eq [SemLoc.reg barSem] (by decide) (by decide)]; rfl

/-- A family over a device's cells, by kind. -/
theorem over_CI (Φ : CI → sProp 𝕄) :
    bigSep Finset.univ Φ = iprop(Φ (.inl ()) ∗ (bigSep Finset.univ fun k => Φ (.inr (.inl k))) ∗ bigSep Finset.univ fun k => Φ (.inr (.inr k))) := by
  rw [bigSep_univ_sum, bigSep_univ_sum, Finset.univ_unique, bigSep_singleton]; rfl

/-! ## Minting -/

theorem kcell_injective : Function.Injective (kcell : Dev nD × CI → GSem nD τ sig) := by
  rintro ⟨c, i⟩ ⟨c', i'⟩ h
  have h1 : c = c' := by have := congrArg (fun g : GSem nD τ sig => g.1.1) h; exact this
  subst h1
  rw [csem_injective (show csem i = csem i' from congrArg Prod.snd h)]
def allCells : Finset (GSem nD τ sig) := Finset.univ.map ⟨kcell, kcell_injective⟩

/-- The duties of a device's own cells, as minted: every distance at the barrier, one at each copy's cells. -/
abbrev TI : Type := Dist ⊕ (Dist ⊕ Dist)
abbrev tokCell : TI → CI
  | .inl _ => .inl ()
  | .inr i => .inr i
abbrev tokDuty : TI → Dist
  | .inl j => j
  | .inr _ => 0
abbrev tokOf (ci : Dev nD × TI) : GSem nD τ sig × ℕ × Dist := (kcell (ci.1, tokCell ci.2), 0, tokDuty ci.2)
theorem tokOf_injective : Function.Injective (tokOf : Dev nD × TI → GSem nD τ sig × ℕ × Dist) := by
  rintro ⟨c, i⟩ ⟨c', i'⟩ h
  have h1 := kcell_injective (congrArg Prod.fst h)
  have h2 : tokDuty i = tokDuty i' := congrArg (fun x : GSem nD τ sig × ℕ × Dist => x.2.2) h
  have hc : c = c' := congrArg Prod.fst h1
  have hi : tokCell i = tokCell i' := congrArg Prod.snd h1
  subst hc
  rcases i with j | i <;> rcases i' with j' | i'
  · rw [show j = j' from h2]
  · cases hi
  · cases hi
  · rw [Sum.inr.inj hi]
def allToks : Finset (GSem nD τ sig × ℕ × Dist) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun j => dutyTok ER (barCell c) 0 j)
    ∗ (bigSep Finset.univ fun k => dutyTok ER (sendCell c k) 0 0) ∗ bigSep Finset.univ fun k => dutyTok ER (recvCell c k) 0 0)

/-- What the launch element deals device `c`. -/
def G (c : Dev nD) : sProp 𝕄 :=
  iprop((bigSep Finset.univ fun i : CI => roundState ER (sched (xstg m ρ)) (kcell (c, i)) 0)
    ∗ (bigSep Finset.univ fun i : CI => iprop(atPos ER (kcell (c, i)) 0 ∅ 0 ∗ reached ER (kcell (c, i)) 0)) ∗ toks c)
/-- What the global step makes of it. -/
def G' (c : Dev nD) : sProp 𝕄 := iprop((∃ K, ghost m ρ K c) ∗ spare c)

theorem mint : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched (xstg m ρ)) allCells allToks) $$ HX with ⟨Hst, Hr, Hat, Htok⟩
  imodintro
  ihave Hst' := (Entails.of_eq (hX fun g => roundState ER (sched (xstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocating and dealing -/

theorem sems0_eq (c : Dev nD) :
    iprop(Pipeline.ownSems0 (Ix := Unit) (Name := ℕ) (U := UU) (Lvl := ℕ) (Val := Elt F) (τ := τ) osem c ∗ unscopedSems0 c)
      ⊢ iprop(spare c ∗ bigSep Finset.univ fun i : CI => semVal (kcell (c, i)) 0 : sProp 𝕄) := by
  rw [ownSems0_eq, unscopedSems0_eq, over_CI]
  iintro ⟨⟨Hsp, HS, HV⟩, HB⟩
  isplitl [Hsp]; · iexact Hsp
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (sched (xstg m ρ)) κ (kcell (c, i))))
          ∗ (bigSep Finset.univ fun i => iprop(atPos ER (kcell (c, i)) 0 ∅ 0 ∗ reached ER (kcell (c, i)) 0)) ∗ toks c ∗ spare c) := by
  unfold G
  iintro ⟨Hos, Hus, Hst, Hat, Htok⟩
  ihave Hv := (sems0_eq (F := F) c) $$ [Hos Hus]
  · isplitl [Hos] <;> iassumption
  icases Hv with ⟨Hsp, Hv⟩
  imod (show iprop((bigSep Finset.univ fun i : CI => semVal (kcell (c, i)) 0) ∗ bigSep Finset.univ fun i : CI => roundState ER (sched (xstg m ρ)) (kcell (c, i)) 0)
      ⊢ (|={Set.univ}=> bigSep Finset.univ fun i => iprop(∃ κ : ℕ, cellInv ER (sched (xstg m ρ)) κ (kcell (c, i))) : sProp 𝕄) from by
        rw [← bigSep_sep']
        exact (bigSep_mono fun i _ => (Rounds.body_intro ER (sched (xstg m ρ)) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The tokens a device pays with. -/
def payToks (c : Dev nD) : sProp 𝕄 :=
  iprop((bigSep Finset.univ fun k => dutyTok ER (barCell (shift c k)) 0 k.rev)
    ∗ (bigSep Finset.univ fun k => dutyTok ER (sendCell c k) 0 0) ∗ bigSep Finset.univ fun k => dutyTok ER (recvCell (shift c k) k) 0 0)

/-- A family over devices and distances, each member moved its distance round the ring. -/
theorem around (Φ : Dev nD → Dist → sProp 𝕄) :
    (bigSep Finset.univ fun c => bigSep Finset.univ fun k => Φ c k) = bigSep Finset.univ fun c => bigSep Finset.univ fun k => Φ (shift c k) k := by
  rw [bigSep_univ_comm, bigSep_univ_comm (fun c k => Φ (shift c k) k)]
  exact bigSep_congr fun k _ => bigSep_univ_equiv (turn k) fun c => Φ c k

/-- The tokens dealt to the devices that pay them. -/
theorem toks_around : (bigSep Finset.univ fun c : Dev nD => (toks c : sProp 𝕄)) = bigSep Finset.univ fun c : Dev nD => payToks c := by
  unfold toks payToks
  simp only [bigSep_sep']
  rw [← around (fun c k => (dutyTok ER (recvCell c k) 0 0 : sProp 𝕄)), ← around (fun c k => (dutyTok ER (barCell c) 0 k.rev : sProp 𝕄))]
  congr 1
  exact bigSep_congr fun c _ => bigSep_univ_equiv Fin.revPerm fun k => (dutyTok ER (barCell c) 0 k : sProp 𝕄)

/-- What stays with device `c`: its positions, the tokens of the duties it pays, the spare counters. -/
def linear (c : Dev nD) : sProp 𝕄 :=
  iprop((bigSep Finset.univ fun i : CI => atPos ER (kcell (c, i)) 0 ∅ 0) ∗ payToks c ∗ spare c)

theorem ghost_intro (K : Dev nD × CI → ℕ) (c : Dev nD) : iprop(records (xstg m ρ) K ∗ linear c) ⊢ G' m ρ c := by
  unfold linear payToks G' ghost
  rw [over_CI]
  iintro ⟨#HR, Hat, Hpay, Hsp⟩
  isplitl [Hat Hpay]
  · iexists K
    isplitr; · iexact HR
    isplitl [Hat]; · iexact Hat
    iexact Hpay
  iexact Hsp

theorem regroup :
    (bigSep Finset.univ fun c : Dev nD => iprop((bigSep Finset.univ fun i => iprop(∃ κ : ℕ, cellInv ER (sched (xstg m ρ)) κ (kcell (c, i))))
          ∗ (bigSep Finset.univ fun i => iprop(atPos ER (kcell (c, i)) 0 ∅ 0 ∗ reached ER (kcell (c, i)) 0)) ∗ toks c ∗ spare c) : sProp 𝕄)
      ⊢ bigSep Finset.univ (G' m ρ) := by
  rw [bigSep_sep', bigSep_sep', bigSep_sep', ← bigSep_univ_prod (fun ci : Dev nD × CI => iprop(∃ κ : ℕ, cellInv ER (sched (xstg m ρ)) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄)), toks_around]
  iintro ⟨HI, ⟨Hat, #HR⟩, Htok, Hsp⟩
  ihave HK := (BI.bigSep_exists_pi Finset.univ (fun (ci : Dev nD × CI) (κ : ℕ) => (cellInv ER (sched (xstg m ρ)) κ (kcell ci) : sProp 𝕄))) $$ HI
  icases HK with ⟨%K, #HI⟩
  iapply (bigSep_with_persistent (R := records (xstg m ρ) K) fun c _ => ghost_intro m ρ K c)
  isplitr
  · unfold records; isplitl; · iexact HI
    iexact HR
  unfold linear
  rw [bigSep_sep', bigSep_sep']
  isplitl [Hat]; · iexact Hat
  isplitl [Htok] <;> iassumption

/-- The global step: every device's semaphores and ghost state at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.KernelIdeal.Pr

end
-- ==== Proof.KernelIdeal.Run.lean ====
/-  The run: the credit the launch deals each device, the launch theorem's side conditions, and the kernel's run
    from any memory, every device's result named. -/
module

public import proofs.«01_k».proof.Proof.KernelIdeal.Ghost

@[expose] public section

noncomputable section

namespace Cert.KernelIdeal.Pr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

theorem shift_eq_iff (c d : Dev nD) (k : Dist) : c = shift d k ↔ d = shift c k.rev :=
  ⟨fun h => by rw [h, shift_rev], fun h => by rw [h, rev_shift]⟩

theorem owedR_apply (d : Dev nD) (l : List Dist) (g : GSem nD τ sig) :
    owedR d l g () = (l.map fun k => if g = recvCell (shift d k) k then N else 0).sum := by
  induction l with
  | nil => rfl
  | cons k l ih =>
    rw [owedR, Pi.add_apply, Finsupp.add_apply, ih, tallyAt_apply, List.map_cons, List.sum_cons, Nat.add_comm]
    simp only [and_true]
theorem owedB_apply (d : Dev nD) (O : CellTallies nD τ sig Unit) (l : List Dist) (g : GSem nD τ sig) :
    owedB d O l g () = O g () + (l.map fun k => if g = barCell (shift d k) then 1 else 0).sum := by
  induction l with
  | nil => rfl
  | cons k l ih =>
    rw [owedB, Pi.add_apply, Finsupp.add_apply, ih, tallyAt_apply, List.map_cons, List.sum_cons]
    simp only [and_true]; omega

/-- A sum over the list of all distances is the sum over the distances. -/
theorem sum_allD (h : Dist → ℕ) : (allD.map h).sum = ∑ k : Dist, h k := by
  rw [allD_univ, List.sum_toFinset h allD_nodup]

theorem owed_bar (d c : Dev nD) : O₀ d (barCell c) () = ∑ k : Dist, if d = shift c k.rev then 1 else 0 := by
  unfold O₀
  rw [owedB_apply, owedR_apply, sum_allD, sum_allD, Finset.sum_eq_zero, Nat.zero_add]
  · refine Finset.sum_congr rfl fun k _ => if_congr ?_ rfl rfl
    rw [← shift_eq_iff]
    exact ⟨fun h => congrArg (fun g : GSem nD τ sig => g.1.1) h, fun h => by rw [h]⟩
  · exact fun k _ => if_neg fun h => by cases (congrArg Prod.snd h : SemLoc.reg barSem = SemLoc.dma (recvSem k.succ))
theorem owed_recv (d c : Dev nD) (k : Dist) : O₀ d (recvCell c k) () = if d = shift c k.rev then N else 0 := by
  unfold O₀
  rw [owedB_apply, owedR_apply, sum_allD, sum_allD,
    Finset.sum_eq_zero (f := fun k' : Dist => if recvCell c k = barCell (shift d k') then 1 else 0), Nat.add_zero]
  · rw [Finset.sum_eq_single k]
    · refine if_congr ?_ rfl rfl
      rw [← shift_eq_iff]
      exact ⟨fun h => congrArg (fun g : GSem nD τ sig => g.1.1) h, fun h => by rw [h]⟩
    · exact fun k' _ hk => if_neg fun h => hk (Fin.succ_injective _ (recvSem_inj (SemLoc.dma.inj (congrArg Prod.snd h)))).symm
    · exact fun h => absurd (Finset.mem_univ _) h
  · exact fun k' _ => if_neg fun h => by cases (congrArg Prod.snd h : SemLoc.dma (recvSem k.succ) = SemLoc.reg barSem)

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun (k : Dist) _ => (Finset.sum_ite_eq' Finset.univ (shift c k.rev) fun _ => 1).trans (if_pos (Finset.mem_univ _)),
    Finset.sum_const, Finset.card_univ, Fintype.card_fin, smul_eq_mul]
theorem launch_recv (c : Dev nD) (k : Dist) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (shift c k.rev) fun _ => N, if_pos (Finset.mem_univ _)]

/-- The arrivals' semaphores. -/
def recvSems : Finset (SemLoc sig) := Finset.univ.map ⟨fun k : Dist => SemLoc.dma (recvSem k.succ),
  fun _ _ h => Fin.succ_injective _ (recvSem_inj (SemLoc.dma.inj h))⟩

theorem creds (c : Dev nD) : (Pipeline.launchCred O₀ c : sProp 𝕄) ⊢ credits c := by
  unfold Pipeline.launchCred credits
  rw [bigSep_univ_at _ (SemLoc.reg barSem), launch_bar]
  refine sep_mono_right ?_
  have hsub : recvSems ⊆ Finset.univ.erase (SemLoc.reg barSem) := fun sm h => by
    obtain ⟨k, -, rfl⟩ := Finset.mem_map.mp h
    exact Finset.mem_erase.mpr ⟨(by intro h; cases h), Finset.mem_univ _⟩
  refine (bigSep_subset hsub).trans ?_
  unfold recvSems
  rw [bigSep_map]
  exact bigSep_mono fun k _ => by
    show cred (tallyOn (recvCell c k) (launchCredit (Pipeline.owing O₀) 0 (recvCell c k))) ⊢ _
    rw [launch_recv]

/-! ## The side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, Hsp, HzS, HzV, HzB⟩
  isplitl [HzB]; · iexact HzB
  isplitl [Hsp HzS HzV]
  · isplitl [Hsp]; · iexact Hsp
    isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every fair execution of the kernel on the 32 devices ends, and every final
    state has each device's arrays at the computed contents and every counter at zero. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run holds what it held. -/
theorem finalA_x (c : Dev nD) : finalA m ρ c (0 : Fin 2) = m ((c : Thread nD τ).loc main_arg0) :=
  (dats (F := F) m ρ 0 c).arrAt_in (0 : Fin 2) rfl _

/-- Device `c`'s block is its argument whole. -/
theorem xstg_eq (c : Dev nD) : xstg m ρ c = m ((c : Thread nD τ).loc main_arg0) := by
  unfold xstg
  exact Memref.readAt_unit_zero (Elt F) main_arg0 (funext fun a => by fin_cases a <;> rfl) _ _

/-- The result array after the run is the block the body left. -/
theorem finalA_out (c : Dev nD) : finalA m ρ c (1 : Fin 2) = outAt (xstg m ρ) c := by
  unfold finalA
  rw [show cfg0.N = t0_0.val + 1 from rfl, (dats m ρ 0 c).arrAt_succ (1 : Fin 2) t0_0, flush0_1, if_pos rfl]
  exact Memref.write_access_unit_zero_univ (Elt F) main_v1 (funext fun a => by fin_cases a <;> rfl) _ _ _

end Cert.KernelIdeal.Pr

end
-- ==== Proof.Reference.Run.lean ====
/-  The run of the reference: its operations as a straight line, what the line leaves in the result, and that it
    leaves the argument alone. -/
module

public import proofs.«01_k».proof.Proof.Gen.ReferenceIdeal
public import Idealize.ShloMosaic.Lib.StableHlo.Run
public import Idealize.ShloMosaic.PureOps.Ideal

@[expose] public section

noncomputable section

namespace Cert.ReferenceIdeal.Pr

open Cert.ReferenceIdeal Cert.ReferenceIdeal.Gen
open Idealize.ShloMosaic Idealize.ShloMosaic.TcCoe Idealize.ShloMosaic.StableHlo Idealize.SL.Sem

variable {F : FTy → Type} [FloatOps F]

/-- Two operands reduced together down each column, from two initial values. -/
def argPair (x : FVec F S8192x256 .f32) (y : IVec S8192x256 32) (u : FVec F S_ .f32) (v : IVec S_ 32) (j : S256.Idx) :
    F .f32 × BitVec 32 :=
  Host.argReduce reducer_argmax_f32_i32 x y u v reducesTo_S8192x256_S256_d0 h_S_ j

/-- The number of a pair. -/
def number (p : F .f32 × BitVec 32) : BitVec 32 := p.2

/-- The values of those pairs, -/
def argVal (x : FVec F S8192x256 .f32) (y : IVec S8192x256 32) (u : FVec F S_ .f32) (v : IVec S_ 32) : FVec F S256 .f32 :=
  fun j => (argPair x y u v j).1

/-- and their row numbers. -/
def argIdx (x : FVec F S8192x256 .f32) (y : IVec S8192x256 32) (u : FVec F S_ .f32) (v : IVec S_ 32) : IVec S256 32 :=
  fun j => number (argPair x y u v j)

/-- The largest value of each column. -/
def colMax (x : FVec F S8192x256 .f32) (u : FVec F S_ .f32) : FVec F S256 .f32 :=
  Host.reduce FloatOps.maximumf x u reducesTo_S8192x256_S256_d0 h_S_

/-- Row numbers as floats. -/
def toFloat (n : IVec S256 32) : FVec F S256 .f32 := sitofp .f32 n

/-- A vector as a row. -/
def asRow (a : FVec F S256 .f32) : FVec F S1x256 .f32 := broadcastInDim S1x256 ![1] bcast_S256_S1x256_1 a

/-- Two rows, one above the other. -/
def stackRows (a b : FVec F S1x256 .f32) : FVec F S2x256 .f32 :=
  concatenate S2x256 0 [⟨S1x256, a⟩, ⟨S1x256, b⟩] concatenates_S1x256_S1x256_S2x256_d0

/-- The result: the largest values above the row numbers as floats. -/
def out (x : FVec F S8192x256 .f32) : FVec F S2x256 .f32 :=
  stackRows (asRow (colMax x (constant S_ .f32 0xFF800000#32)))
    (asRow (toFloat (argIdx x (iotaInDim S8192x256 32 0) (constant S_ .f32 0xFF800000#32) (constantI S_ 32 0#32))))

/-- The operations in order. -/
abbrev ops : List (HloOp τ sig (Elt F)) :=
  [ nullary main_call0_v0 (iotaInDim S8192x256 32 0),
    nullary main_call0_cst (constant S_ .f32 0xFF800000#32),
    nullary main_call0_c (constantI S_ 32 0#32),
    quaternary main_arg0 main_call0_v0 main_call0_cst main_call0_c main_call0_v1_0 argVal,
    quaternary main_arg0 main_call0_v0 main_call0_cst main_call0_c main_v0 argIdx,
    unary main_v0 main_v1 toFloat,
    nullary main_cst (constant S_ .f32 0xFF800000#32),
    binary main_arg0 main_cst main_v2 colMax,
    unary main_v2 main_v3 asRow,
    unary main_v1 main_v4 asRow,
    binary main_v3 main_v4 main_v5 stackRows ]

/-- The program is that straight line. -/
theorem main_eq (c : Dev nD) : main (F := F) c = seq ops := by
  simp only [main, fn_argmax.body, seq, bind_assoc, pure_bind]
  rfl

/-- What the line leaves in the result. -/
theorem out_eq (V : Valuation τ sig (Elt F)) :
    after ops V (main_v5 : DevRef τ sig) = out (V (main_arg0 : DevRef τ sig)) := by
  after_results_simp
  rfl

/-- The line leaves the argument alone. -/
theorem arg0_eq (V : Valuation τ sig (Elt F)) :
    after ops V (main_arg0 : DevRef τ sig) = V (main_arg0 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- The operations name the core's own buffers only. -/
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub ..,
    unary_bufs_sub .., nullary_bufs_sub .., binary_bufs_sub .., unary_bufs_sub .., unary_bufs_sub .., binary_bufs_sub ..⟩

/-- The run: every execution ends with each buffer at the line's fold over the first contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.Pr

end
-- ==== Proof.Value.Best.lean ====
/-  The largest value of a column over a set of rows together with the smallest row that attains it: what it is, that it
    is unique, and how it is found for a union of sets. -/
module

public import Idealize.ShloMosaic.Lib.Pointwise

@[expose] public section

noncomputable section

namespace Cert.Best

variable {ι R : Type}

/-- `a` is the largest value of `f` on `S`, and `n` the smallest number of a row of `S` where `f` has that value. -/
structure Best (num : R → ℕ) (S : R → Prop) (f : R → EReal) (a : EReal) (n : ℕ) : Prop where
  attained : ∃ r, S r ∧ f r = a ∧ num r = n
  le : ∀ r, S r → f r ≤ a
  first : ∀ r, S r → f r = a → n ≤ num r

variable {num : R → ℕ} {S T : R → Prop} {f : R → EReal} {a b : EReal} {n k : ℕ}

/-- The pair is determined. -/
theorem Best.unique (h : Best num S f a n) (h' : Best num S f b k) : a = b ∧ n = k := by
  obtain ⟨r, hr, rfl, rfl⟩ := h.attained
  obtain ⟨t, ht, rfl, rfl⟩ := h'.attained
  have e : f r = f t := le_antisymm (h'.le r hr) (h.le t ht)
  exact ⟨e, le_antisymm (h.first t ht e.symm) (h'.first r hr e)⟩

theorem Best.congr (h : Best num S f a n) (hs : ∀ r, S r ↔ T r) : Best num T f a n := by
  rwa [show T = S from funext fun r => propext (hs r).symm]

/-- Two sets: the larger value with its row, and on equal values the smaller row. -/
theorem Best.or (h : Best num S f a n) (h' : Best num T f b k) :
    Best num (fun r => S r ∨ T r) f (max a b) (if a < b then k else if b = a then min n k else n) := by
  obtain ⟨r, hr, hra, hrn⟩ := h.attained
  obtain ⟨t, ht, htb, htk⟩ := h'.attained
  rcases lt_trichotomy a b with hl | he | hg
  · rw [if_pos hl, max_eq_right hl.le]
    exact ⟨⟨t, .inr ht, htb, htk⟩, fun q hq => hq.elim (fun hq => (h.le q hq).trans hl.le) (h'.le q),
      fun q hq e => hq.elim (fun hq => absurd (e ▸ h.le q hq) (not_le_of_gt hl)) fun hq => h'.first q hq e⟩
  · subst he
    rw [if_neg (lt_irrefl _), if_pos rfl, max_self]
    refine ⟨?_, fun q hq => hq.elim (h.le q) (h'.le q), fun q hq e => hq.elim
      (fun hq => (min_le_left _ _).trans (h.first q hq e)) fun hq => (min_le_right _ _).trans (h'.first q hq e)⟩
    rcases le_total n k with hn | hn
    · exact ⟨r, .inl hr, hra, by rw [min_eq_left hn, hrn]⟩
    · exact ⟨t, .inr ht, htb, by rw [min_eq_right hn, htk]⟩
  · rw [if_neg (lt_asymm hg), if_neg hg.ne, max_eq_left hg.le]
    exact ⟨⟨r, .inl hr, hra, hrn⟩, fun q hq => hq.elim (h.le q) fun hq => (h'.le q hq).trans hg.le,
      fun q hq e => hq.elim (fun hq => h.first q hq e) fun hq => absurd (e ▸ h'.le q hq) (not_le_of_gt hg)⟩

/-! ## Folds over finitely many entries -/

variable [Fintype ι]

/-- The fold of `max` from the bottom is an entry above every entry. -/
theorem fold_max_spec [Nonempty ι] (u : ι → EReal) :
    ∃ i, Finset.univ.fold max ⊥ u = u i ∧ ∀ j, u j ≤ u i := by
  obtain ⟨i, -, hi⟩ := Finset.exists_max_image (Finset.univ : Finset ι) u Finset.univ_nonempty
  refine ⟨i, le_antisymm ?_ ?_, fun j => hi j (Finset.mem_univ _)⟩
  · exact (Finset.fold_max_le _).mpr ⟨bot_le, hi⟩
  · exact (Finset.le_fold_max _).mpr (.inr ⟨i, Finset.mem_univ _, le_rfl⟩)

/-- The fold of `min` from a bound at least every entry is an entry below every entry. -/
theorem fold_min_spec [Nonempty ι] {α : Type} [LinearOrder α] (top : α) (u : ι → α) (ht : ∀ i, u i ≤ top) :
    ∃ i, Finset.univ.fold min top u = u i ∧ ∀ j, u i ≤ u j := by
  obtain ⟨i, -, hi⟩ := Finset.exists_min_image (Finset.univ : Finset ι) u Finset.univ_nonempty
  refine ⟨i, le_antisymm ?_ ?_, fun j => hi j (Finset.mem_univ _)⟩
  · exact (Finset.fold_min_le _).mpr (.inr ⟨i, Finset.mem_univ _, le_rfl⟩)
  · exact (Finset.le_fold_min _).mpr ⟨ht i, hi⟩

/-- A family of sets, each with its pair `u i`, `n i`: the largest of the values, and the smallest of the row numbers
    that go with it — picked out as a minimum in which every other entry counts `big`, above all row numbers. -/
theorem Best.family [Nonempty ι] {S : ι → R → Prop} {u : ι → EReal} {p : ι → ℕ} (h : ∀ i, Best num (S i) f (u i) (p i))
    {α : Type} [LinearOrder α] (up : ℕ → α) (hup : StrictMono up) (top big : α) (hbt : big ≤ top) (hb : ∀ i, up (p i) < big) :
    ∃ n, Finset.univ.fold min top (fun i => if u i = Finset.univ.fold max ⊥ u then up (p i) else big) = up n
      ∧ Best num (fun r => ∃ i, S i r) f (Finset.univ.fold max ⊥ u) n := by
  obtain ⟨i, hi, hmax⟩ := fold_max_spec u
  have ht : ∀ j, (if u j = Finset.univ.fold max ⊥ u then up (p j) else big) ≤ top := fun j => by
    split
    · exact (hb j).le.trans hbt
    · exact hbt
  obtain ⟨j, hj, hmin⟩ := fold_min_spec top _ ht
  have hj' : u j = Finset.univ.fold max ⊥ u := by
    by_contra hne
    have := hmin i
    rw [if_neg hne, if_pos hi.symm] at this
    exact absurd this (not_le_of_gt (hb i))
  refine ⟨p j, by rw [hj, if_pos hj'], ?_, ?_, ?_⟩
  · obtain ⟨r, hr, e, e'⟩ := (h j).attained
    exact ⟨r, ⟨j, hr⟩, e.trans hj', e'⟩
  · rintro r ⟨q, hq⟩
    rw [hi]
    exact ((h q).le r hq).trans (hmax q)
  · rintro r ⟨q, hq⟩ e
    have hq' : u q = Finset.univ.fold max ⊥ u := le_antisymm (by rw [hi]; exact hmax q) (e ▸ (h q).le r hq)
    have := hmin q
    rw [if_pos hj', if_pos hq'] at this
    exact (hup.le_iff_le.mp this).trans ((h q).first r hq (e.trans hq'.symm))

/-- The value of a family without its row. -/
theorem Best.value (h : Best num S f a n) (e : ι → R) (hS : ∀ r, S r ↔ ∃ i, e i = r) : Finset.univ.fold max ⊥ (f ∘ e) = a := by
  obtain ⟨r, hr, hra, -⟩ := h.attained
  obtain ⟨i, rfl⟩ := (hS r).mp hr
  haveI : Nonempty ι := ⟨i⟩
  obtain ⟨j, hj, hm⟩ := fold_max_spec (f ∘ e)
  rw [hj]
  exact le_antisymm (h.le _ ((hS _).mpr ⟨j, rfl⟩)) (hra ▸ hm i)

/-- Each row its own set. -/
theorem Best.single (r : R) : Best num (fun q => q = r) f (f r) (num r) :=
  ⟨⟨r, rfl, rfl, rfl⟩, fun _ h => h ▸ le_rfl, fun _ h _ => h ▸ le_rfl⟩

end Cert.Best

end
-- ==== Proof.Value.Group.lean ====
/-  One device's local maxima and one group's combination, read at a column: that they are the largest value of the
    column over the rows seen so far and the smallest row that attains it, the row as a float. -/
module

public import proofs.«01_k».proof.Proof.Value.Best
public import proofs.«01_k».proof.Proof.KernelIdeal.Result
public import Idealize.ShloMosaic.PureOps.Ideal

@[expose] public section

noncomputable section

namespace Cert.Best

open Idealize.ShloMosaic

/-- A row number as an extended real. -/
def toE (n : ℕ) : EReal := ((n : ℝ) : EReal)

theorem toE_strictMono : StrictMono toE := fun _ _ h => EReal.coe_lt_coe_iff.mpr (Nat.cast_lt.mpr h)

/-! ## The three float literals -/

theorem ofBits_bot : Ideal.ofBits .f32 0xFF800000#32 = ⊥ := by
  simp [Ideal.ofBits, Ideal.ieee, -EReal.coe_mul]

theorem ofBits_top : Ideal.ofBits .f32 0x7F800000#32 = ⊤ := by
  simp [Ideal.ofBits, Ideal.ieee, -EReal.coe_mul]

theorem ofBits_big : Ideal.ofBits .f32 0x4E6E6B28#32 = toE 1000000000 := by
  simp [Ideal.ofBits, Ideal.ieee, toE, -EReal.coe_mul]
  norm_num

/-! ## One step of the running pair -/

variable {ι : Type} [Fintype ι]

/-- The largest of a group's values, -/
def gmax (u : ι → EReal) : EReal := Finset.univ.fold max ⊥ u
/-- the smallest of the row numbers that go with it, -/
def gidx (u w : ι → EReal) : EReal := Finset.univ.fold min ⊤ fun i => if u i = gmax u then w i else toE 1000000000
/-- and the running row number after the group. -/
def next (a n : EReal) (u w : ι → EReal) : EReal :=
  if a < gmax u then gidx u w else if gmax u = a then min n (gidx u w) else n

/-- A value and a row number, as extended reals, that are the pair of a set. -/
def IsBest {R : Type} (num : R → ℕ) (S : R → Prop) (f : R → EReal) (a n : EReal) : Prop :=
  ∃ k, Best num S f a k ∧ n = toE k

theorem IsBest.congr {R : Type} {num : R → ℕ} {S T : R → Prop} {f : R → EReal} {a n : EReal}
    (h : IsBest num S f a n) (hs : ∀ r, S r ↔ T r) : IsBest num T f a n :=
  let ⟨k, hb, e⟩ := h; ⟨k, hb.congr hs, e⟩

theorem IsBest.unique {R : Type} {num : R → ℕ} {S : R → Prop} {f : R → EReal} {a n b k : EReal}
    (h : IsBest num S f a n) (h' : IsBest num S f b k) : a = b ∧ n = k := by
  obtain ⟨p, hp, rfl⟩ := h
  obtain ⟨q, hq, rfl⟩ := h'
  exact ⟨(hp.unique hq).1, congrArg toE (hp.unique hq).2⟩

/-- The running pair of a set and a group of sets' pairs: the step makes the pair of all of them. -/
theorem IsBest.step [Nonempty ι] {R : Type} {num : R → ℕ} (hnum : ∀ r, num r < 1000000000) {S : R → Prop} {T : ι → R → Prop}
    {f : R → EReal} {a n : EReal} {u w : ι → EReal} (h : IsBest num S f a n) (hg : ∀ i, IsBest num (T i) f (u i) (w i)) :
    IsBest num (fun r => S r ∨ ∃ i, T i r) f (max a (gmax u)) (next a n u w) := by
  obtain ⟨k, hk, rfl⟩ := h
  choose p hp hw using hg
  obtain rfl : w = fun i => toE (p i) := funext hw
  have hlt : ∀ i, toE (p i) < toE 1000000000 := fun i => by
    obtain ⟨r, -, -, e⟩ := (hp i).attained
    exact toE_strictMono (e ▸ hnum r)
  obtain ⟨q, hq, hb⟩ := Best.family hp toE toE_strictMono ⊤ (toE 1000000000) le_top hlt
  have hgi : gidx u (fun i => toE (p i)) = toE q := hq
  refine ⟨_, hk.or hb, ?_⟩
  unfold next
  rw [hgi]
  show (if a < gmax u then toE q else if gmax u = a then min (toE k) (toE q) else toE k)
    = toE (if a < gmax u then q else if gmax u = a then min k q else k)
  split_ifs
  · rfl
  · exact (toE_strictMono.monotone.map_min).symm
  · rfl

end Cert.Best

namespace Cert.KernelIdeal.Pr

open Cert.KernelIdeal Cert.KernelIdeal.Gen Cert.Best
open Idealize.ShloMosaic Idealize.ShloMosaic.TcCoe

/-! ## The kernel's groups at a column -/

/-- The eight (or seven) entries of column `j`. -/
abbrev col8 (u : Vec Ideal S8x1x256 .f32) (j : Fin 256) : Fin 8 → EReal := fun s => u (ix3 s 0 j)
abbrev col7 (u : Vec Ideal S7x1x256 .f32) (j : Fin 256) : Fin 7 → EReal := fun s => u (ix3 s 0 j)

variable (a n : Vec Ideal S256 .f32) (u w : Vec Ideal S8x1x256 .f32) (u' w' : Vec Ideal S7x1x256 .f32) (j : Fin 256)

theorem pay8_apply : k0_pay8 a u (ix1 j) = max (a (ix1 j)) (gmax (col8 u j)) := by
  unfold k0_pay8 k0_pay7 k0_pay6
  simp only [pointwise, ofBits_bot]
  rfl

theorem pay9_apply : k0_pay9 a n u w (ix1 j) = next (a (ix1 j)) (n (ix1 j)) (col8 u j) (col8 w j) := by
  unfold k0_pay9 k0_pay7 k0_pay6
  simp only [pointwise, ofBits_bot, ofBits_top, ofBits_big]
  unfold next gidx gmax
  congr!

/-- The second and third group are computed as the first. -/
theorem pay12_eq : k0_pay12 a u = k0_pay8 a u := rfl
theorem pay16_eq : k0_pay16 a u = k0_pay8 a u := rfl
theorem pay13_eq : k0_pay13 a n u w = k0_pay9 a n u w := rfl
theorem pay17_eq : k0_pay17 a n u w = k0_pay9 a n u w := rfl

theorem pay20_apply : k0_pay20 a u' (ix2 0 j) = max (a (ix1 j)) (gmax (col7 u' j)) := by
  unfold k0_pay20 k0_pay19 k0_pay18
  simp only [pointwise, ofBits_bot]
  rfl

theorem pay21_apply : k0_pay21 a n u' w' (ix2 0 j) = next (a (ix1 j)) (n (ix1 j)) (col7 u' j) (col7 w' j) := by
  unfold k0_pay21 k0_pay19 k0_pay18
  simp only [pointwise, ofBits_bot, ofBits_top, ofBits_big]
  unfold next gidx gmax
  congr!

/-! ## One device's rows -/

/-- The largest value of a block's column. -/
theorem pay2_apply (x : Vec Ideal S256x256 .f32) : k0_pay2 x (ix1 j) = gmax fun r : Fin 256 => x (ix2 r j) := by
  unfold k0_pay2 k0_pay1
  simp only [pointwise, ofBits_bot]
  rfl

/-- The block's smallest row with it, as a word: the row's number, or 256. -/
def firstRow (x : Vec Ideal S256x256 .f32) (j : Fin 256) : BitVec 32 :=
  Finset.univ.fold IntOp.minsi 2147483647#32 fun r : Fin 256 =>
    if x (ix2 r j) = gmax (fun r : Fin 256 => x (ix2 r j)) then BitVec.ofNat 32 r.val else 256#32

theorem pay3_apply (p : BitVec 32) (x : Vec Ideal S256x256 .f32) :
    k0_pay3 p x (ix1 j) = (((p * 256#32 + firstRow x j).toInt : ℝ) : EReal) := by
  unfold k0_pay3 k0_pay2 k0_pay1
  simp only [pointwise, ofBits_bot]
  show (((p * 256#32 + _ : BitVec 32).toInt : ℝ) : EReal) = _
  unfold firstRow gmax
  congr! 6
  exact congrArg (BitVec.ofNat 32) ((congrArg (· + _) (Nat.zero_mul 256)).trans (Nat.zero_add _))

/-- The signed minimum of words is the minimum of their values. -/
theorem toInt_minsi (x y : BitVec 32) : (IntOp.minsi x y).toInt = min x.toInt y.toInt := by
  show (if x.slt y then x else y).toInt = _
  by_cases h : x.slt y
  · rw [if_pos h]; rw [BitVec.slt_iff_toInt_lt] at h; exact (min_eq_left h.le).symm
  · rw [if_neg h]; rw [BitVec.slt_iff_toInt_lt] at h; exact (min_eq_right (not_lt.mp h)).symm

theorem toInt_firstRow (x : Vec Ideal S256x256 .f32) : (firstRow x j).toInt
    = Finset.univ.fold min (2147483647 : ℤ) fun r : Fin 256 =>
        if x (ix2 r j) = gmax (fun r : Fin 256 => x (ix2 r j)) then (r.val : ℤ) else 256 := by
  unfold firstRow
  rw [← Finset.fold_hom (op := IntOp.minsi) (op' := min) (m := BitVec.toInt) toInt_minsi]
  refine congrArg₂ (fun b g => Finset.univ.fold min b g) (by decide) (funext fun r => ?_)
  have hr : r.val < 256 := r.isLt
  split_ifs
  · have hn : (BitVec.ofNat 32 r.val).toNat = r.val := by rw [BitVec.toNat_ofNat]; omega
    rw [BitVec.toInt_eq_toNat_of_lt (by omega), hn]
  · decide

/-- The rows of device `d`. -/
abbrev Blk (d : Fin 32) (r : Fin 8192) : Prop := r.val / 256 = d.val

/-- One device's two rows: the pair of its own block of the column. -/
theorem own_best (d : Fin 32) (f : Fin 8192 → EReal) (x : Vec Ideal S256x256 .f32)
    (hx : ∀ r : Fin 256, x (ix2 r j) = f ⟨d.val * 256 + r.val, by omega⟩) :
    IsBest Fin.val (Blk d) f (k0_pay2 x (ix1 j)) (k0_pay3 (BitVec.ofNat 32 d.val) x (ix1 j)) := by
  have hd : d.val < 32 := d.isLt
  let e : Fin 256 → Fin 8192 := fun r => ⟨d.val * 256 + r.val, by omega⟩
  have hxe : (fun r : Fin 256 => x (ix2 r j)) = fun r => f (e r) := funext hx
  obtain ⟨q, hq, hb⟩ := Best.family (num := Fin.val) (fun r : Fin 256 => Best.single (num := Fin.val) (f := f) (e r))
    (fun q : ℕ => (q : ℤ) - d.val * 256) (fun a b h => by show (a : ℤ) - _ < (b : ℤ) - _; omega) 2147483647 256 (by decide)
    (fun r => by show ((d.val * 256 + r.val : ℕ) : ℤ) - _ < 256; push_cast; have := r.isLt; omega)
  have hw : (firstRow x j).toInt = (q : ℤ) - d.val * 256 := by
    rw [toInt_firstRow, ← hq]
    refine congrArg (fun g => Finset.univ.fold min _ g) (funext fun r => ?_)
    rw [hxe, hx r]
    show (if f (e r) = _ then (r.val : ℤ) else 256) = if f (e r) = _ then ((d.val * 256 + r.val : ℕ) : ℤ) - _ else 256
    congr 1
    push_cast; ring
  have hbk : Best Fin.val (Blk d) f (gmax fun r => f (e r)) q := hb.congr fun r => by
    constructor
    · rintro ⟨i, rfl⟩
      show (d.val * 256 + i.val) / 256 = d.val
      omega
    · intro h
      have h : r.val / 256 = d.val := h
      exact ⟨⟨r.val % 256, Nat.mod_lt _ (by decide)⟩, Fin.ext (by show r.val = d.val * 256 + r.val % 256; omega)⟩
  obtain ⟨r, hr, -, hrq⟩ := hbk.attained
  have hr : r.val / 256 = d.val := hr
  refine ⟨q, by rw [pay2_apply, hxe]; exact hbk, ?_⟩
  rw [pay3_apply]
  have hsum : (BitVec.ofNat 32 d.val * 256#32 + firstRow x j).toInt = (q : ℤ) := by
    have hp : (BitVec.ofNat 32 d.val * 256#32).toInt = (d.val : ℤ) * 256 := by
      have hn : (BitVec.ofNat 32 d.val * 256#32).toNat = d.val * 256 := by
        rw [BitVec.toNat_mul, BitVec.toNat_ofNat]
        show d.val % 2 ^ 32 * 256 % 2 ^ 32 = _
        omega
      rw [BitVec.toInt_eq_toNat_of_lt (by omega), hn]; push_cast; ring
    rw [BitVec.toInt_add, hp, hw, Int.bmod_eq_of_le] <;> omega
  rw [hsum]; rfl

end Cert.KernelIdeal.Pr

end
-- ==== Proof.Value.Kernel.lean ====
/-  What each device's result holds: at every column the largest value over all 8192 rows and the smallest row that
    attains it. -/
module

public import proofs.«01_k».proof.Proof.Value.Group

@[expose] public section

noncomputable section

namespace Cert.KernelIdeal.Pr

open Cert.KernelIdeal Cert.KernelIdeal.Gen Cert.Best
open Idealize.ShloMosaic Idealize.ShloMosaic.TcCoe

/-- The ring position a device computes is its number. -/
theorem posWord_eq (d : Fin 32) : posWord d = BitVec.ofNat 32 d.val := by revert d; decide

/-- Row `r` of device `d`'s block is this row of the whole array. -/
def wholeRow (d : Fin 32) (r : Fin 256) : Fin 8192 := ⟨d.val * 256 + r.val, by omega⟩

/-! ## The gathered rows -/

section
variable (X : Dev nD → Vec Ideal S256x256 .f32) (c : Dev nD) (j : Fin 256)

/-- A slot's first row holds the maxima of the device it came from, -/
theorem gathF_max (i : S32x2x256.Idx) (s : Fin 32) (h0 : (i 0).val = s.val) (h1 : (i 1).val = 0) (h2 : (i 2).val = j.val) :
    gathF X c i = k0_pay2 (X (src c s)) (ix1 j) := by
  have e0 : (i 0 : Fin 32) = s := Fin.ext h0
  have e2 : (i 2 : Fin 256) = j := Fin.ext h2
  unfold gathF
  rw [if_pos h1, e0, e2]
  unfold k0_pay4
  simp only [pointwise]

/-- and its second row their row numbers. -/
theorem gathF_idx (i : S32x2x256.Idx) (s : Fin 32) (h0 : (i 0).val = s.val) (h1 : (i 1).val = 1) (h2 : (i 2).val = j.val) :
    gathF X c i = k0_pay3 (BitVec.ofNat 32 (src c s).val) (X (src c s)) (ix1 j) := by
  have e0 : (i 0 : Fin 32) = s := Fin.ext h0
  have e2 : (i 2 : Fin 256) = j := Fin.ext h2
  unfold gathF
  rw [if_neg (by omega), e0, e2, posWord_eq]
  unfold k0_pay5
  simp only [pointwise]

/-! ## Reading a group -/

/-- A load of eight (or seven) slots reads the slots. -/
theorem rd8_apply (B : GBuf Ideal) (lo : ℕ) (b : Fin 2) (inb) (s : Fin 8) (h : lo + s.val < 32) :
    rd8 B lo b.val inb (ix3 s 0 j) = B (ix3 (⟨lo + s.val, h⟩ : Fin 32) b j) := by
  show B ((gath.access (Rect.unit (s := S32x2x256) ![lo, b.val, 0] S8x1x256.size inb)).emb (ix3 s 0 j)) = _
  refine congrArg B (funext fun a => Fin.ext ?_)
  fin_cases a
  · show lo + 1 * s.val = lo + s.val; omega
  · show b.val + 1 * 0 = b.val; omega
  · show 0 + 1 * j.val = j.val; omega
theorem rd7_apply (B : GBuf Ideal) (lo : ℕ) (b : Fin 2) (inb) (s : Fin 7) (h : lo + s.val < 32) :
    rd7 B lo b.val inb (ix3 s 0 j) = B (ix3 (⟨lo + s.val, h⟩ : Fin 32) b j) := by
  show B ((gath.access (Rect.unit (s := S32x2x256) ![lo, b.val, 0] S7x1x256.size inb)).emb (ix3 s 0 j)) = _
  refine congrArg B (funext fun a => Fin.ext ?_)
  fin_cases a
  · show lo + 1 * s.val = lo + s.val; omega
  · show b.val + 1 * 0 = b.val; omega
  · show 0 + 1 * j.val = j.val; omega

end

/-- The two rows of a block made of two rows. -/
theorem rows_zero (a b : Vec Ideal S1x256 .f32) (j : Fin 256) :
    (rows a b : Vec Ideal S2x256 .f32) (ix2 (0 : Fin 2) j) = a (ix2 0 j) := by
  unfold rows; exact if_pos rfl
theorem rows_one (a b : Vec Ideal S1x256 .f32) (j : Fin 256) :
    (rows a b : Vec Ideal S2x256 .f32) (ix2 (1 : Fin 2) j) = b (ix2 0 j) := by
  unfold rows; exact if_neg (show ¬(1 : ℕ) = 0 by decide)

/-! ## The running pair -/

/-- The rows seen once the slots below `n` are combined. -/
def Seen (c : Dev nD) (n : ℕ) (r : Fin 8192) : Prop := ∃ s : Fin 32, s.val < n ∧ Blk (src c s) r

/-- A group of `m` slots from `lo` on extends the rows seen to `lo + m`. -/
theorem seen_group (c : Dev nD) (lo m : ℕ) (h : lo + m ≤ 32) (r : Fin 8192) :
    (Seen c lo r ∨ ∃ i : Fin m, Blk (src c ⟨lo + i.val, by omega⟩) r) ↔ Seen c (lo + m) r := by
  constructor
  · rintro (⟨s, hs, hr⟩ | ⟨i, hr⟩)
    · exact ⟨s, by omega, hr⟩
    · exact ⟨_, by show lo + i.val < lo + m; omega, hr⟩
  · rintro ⟨s, hs, hr⟩
    by_cases hl : s.val < lo
    · exact .inl ⟨s, hl, hr⟩
    · refine .inr ⟨⟨s.val - lo, by omega⟩, ?_⟩
      have e : (⟨lo + (s.val - lo), by omega⟩ : Fin 32) = s := Fin.ext (by show lo + (s.val - lo) = s.val; omega)
      show Blk (src c ⟨lo + (s.val - lo), _⟩) r
      rw [e]; exact hr

/-- After all 32 slots every row is seen. -/
theorem seen_all (c : Dev nD) (r : Fin 8192) : Seen c 32 r := by
  have hc : c.val < 32 := c.isLt
  have hr := r.isLt
  refine ⟨⟨(c.val + 32 - r.val / 256) % 32, Nat.mod_lt _ (by decide)⟩, Nat.mod_lt _ (by decide), ?_⟩
  show r.val / 256 = (c.val + 32 - (c.val + 32 - r.val / 256) % 32) % 32
  omega

section
variable (X : Dev nD → Vec Ideal S256x256 .f32) (A : Vec Ideal ⟨2, ![8192, 256]⟩ .f32)
variable (hX : ∀ (d : Fin 32) (r j : Fin 256), X d (ix2 r j) = A (ix2 (wholeRow d r) j))
variable (c : Dev nD) (j : Fin 256)

include hX

/-- Every device's pair. -/
theorem dev_best (d : Fin 32) : IsBest Fin.val (Blk d) (fun r : Fin 8192 => A (ix2 r j)) (k0_pay2 (X d) (ix1 j)) (k0_pay3 (BitVec.ofNat 32 d.val) (X d) (ix1 j)) :=
  own_best j d (fun r : Fin 8192 => A (ix2 r j)) (X d) fun r => hX d r j

/-- A group of eight slots extends the running pair. -/
theorem group8 (lo : ℕ) (h : lo + 8 ≤ 32) (inb0 inb1) (a n : Vec Ideal S256 .f32)
    (hp : IsBest Fin.val (Seen c lo) (fun r : Fin 8192 => A (ix2 r j)) (a (ix1 j)) (n (ix1 j))) :
    IsBest Fin.val (Seen c (lo + 8)) (fun r : Fin 8192 => A (ix2 r j)) (k0_pay8 a (rd8 (gathF X c) lo 0 inb0) (ix1 j)) (k0_pay9 a n (rd8 (gathF X c) lo 0 inb0) (rd8 (gathF X c) lo 1 inb1) (ix1 j)) := by
  rw [pay8_apply, pay9_apply]
  refine (hp.step (T := fun i : Fin 8 => Blk (src c ⟨lo + i.val, by omega⟩)) (fun r => by have := r.isLt; omega)
    fun i => ?_).congr (seen_group c lo 8 h)
  have e0 : col8 (rd8 (gathF X c) lo 0 inb0) j i = k0_pay2 (X (src c ⟨lo + i.val, by omega⟩)) (ix1 j) :=
    (rd8_apply j (gathF X c) lo 0 inb0 i (by omega)).trans (gathF_max X c j _ _ rfl rfl rfl)
  have e1 : col8 (rd8 (gathF X c) lo 1 inb1) j i = k0_pay3 (BitVec.ofNat 32 (src c ⟨lo + i.val, by omega⟩).val) (X (src c ⟨lo + i.val, by omega⟩)) (ix1 j) :=
    (rd8_apply j (gathF X c) lo 1 inb1 i (by omega)).trans (gathF_idx X c j _ _ rfl rfl rfl)
  rw [e0, e1]
  exact dev_best X A hX j _

/-- The last seven slots extend the running pair. -/
theorem group7 (lo : ℕ) (h : lo + 7 ≤ 32) (inb0 inb1) (a n : Vec Ideal S256 .f32)
    (hp : IsBest Fin.val (Seen c lo) (fun r : Fin 8192 => A (ix2 r j)) (a (ix1 j)) (n (ix1 j))) :
    IsBest Fin.val (Seen c (lo + 7)) (fun r : Fin 8192 => A (ix2 r j)) (k0_pay20 a (rd7 (gathF X c) lo 0 inb0) (ix2 0 j)) (k0_pay21 a n (rd7 (gathF X c) lo 0 inb0) (rd7 (gathF X c) lo 1 inb1) (ix2 0 j)) := by
  rw [pay20_apply, pay21_apply]
  refine (hp.step (T := fun i : Fin 7 => Blk (src c ⟨lo + i.val, by omega⟩)) (fun r => by have := r.isLt; omega)
    fun i => ?_).congr (seen_group c lo 7 h)
  have e0 : col7 (rd7 (gathF X c) lo 0 inb0) j i = k0_pay2 (X (src c ⟨lo + i.val, by omega⟩)) (ix1 j) :=
    (rd7_apply j (gathF X c) lo 0 inb0 i (by omega)).trans (gathF_max X c j _ _ rfl rfl rfl)
  have e1 : col7 (rd7 (gathF X c) lo 1 inb1) j i = k0_pay3 (BitVec.ofNat 32 (src c ⟨lo + i.val, by omega⟩).val) (X (src c ⟨lo + i.val, by omega⟩)) (ix1 j) :=
    (rd7_apply j (gathF X c) lo 1 inb1 i (by omega)).trans (gathF_idx X c j _ _ rfl rfl rfl)
  rw [e0, e1]
  exact dev_best X A hX j _

/-- The device's own rows are the first seen. -/
theorem start_best : IsBest Fin.val (Seen c 1) (fun r : Fin 8192 => A (ix2 r j)) (k0_pay2 (X c) (ix1 j)) (k0_pay3 (posWord c) (X c) (ix1 j)) := by
  rw [posWord_eq]
  refine (dev_best X A hX j c).congr fun r => ⟨fun h => ⟨0, by decide, by rw [src_zero]; exact h⟩, ?_⟩
  rintro ⟨s, hs, h⟩
  obtain rfl : s = 0 := Fin.ext (by show s.val = 0; omega)
  rwa [src_zero] at h

/-- The result of every device: the pair of the whole column. -/
theorem out_best : IsBest Fin.val (fun _ => True) (fun r : Fin 8192 => A (ix2 r j)) (outAt X c (ix2 (0 : Fin 2) j)) (outAt X c (ix2 (1 : Fin 2) j)) := by
  have h1 := group8 X A hX c j 1 (by decide) inb_S32x2x256_S8x1x256_1_0_0 inb_S32x2x256_S8x1x256_1_1_0 _ _ (start_best X A hX c j)
  have h2 := group8 X A hX c j 9 (by decide) inb_S32x2x256_S8x1x256_9_0_0 inb_S32x2x256_S8x1x256_9_1_0 _ _ h1
  have h3 := group8 X A hX c j 17 (by decide) inb_S32x2x256_S8x1x256_17_0_0 inb_S32x2x256_S8x1x256_17_1_0 _ _ h2
  have h4 := group7 X A hX c j 25 (by decide) inb_S32x2x256_S7x1x256_25_0_0 inb_S32x2x256_S7x1x256_25_1_0 _ _ h3
  unfold outAt
  rw [rows_zero, rows_one]
  unfold rowMax rowIdx mx3 nx3 mx2 nx2 mx1 nx1 u1 w1 u2 w2 u3 w3 u4 w4
  rw [pay16_eq, pay17_eq, pay12_eq, pay13_eq]
  exact h4.congr fun r => ⟨fun _ => trivial, fun _ => seen_all c r⟩

end

end Cert.KernelIdeal.Pr

end
-- ==== Proof.Value.Reference.lean ====
/-  What the reference's result holds: at every column the largest value and the smallest row that attains it. -/
module

public import proofs.«01_k».proof.Proof.Value.Group
public import proofs.«01_k».proof.Proof.Reference.Run
public import Idealize.ShloMosaic.PureOps.Reduce
public import Idealize.ShloMosaic.PureOps.Ideal.Laws

@[expose] public section

noncomputable section

namespace Cert.ReferenceIdeal.Pr

open Cert.ReferenceIdeal Cert.ReferenceIdeal.Gen Cert.Best
open Idealize.ShloMosaic Idealize.ShloMosaic.TcCoe

/-! ## The reducer -/

/-- A value with a row number. -/
abbrev Entry : Type := EReal × BitVec 32

/-- `q` is no better than `p`: smaller, or equal with no smaller row. -/
def NoBetter (q p : Entry) : Prop := q.1 ≤ p.1 ∧ (q.1 = p.1 → p.2.toInt ≤ q.2.toInt)

theorem NoBetter.refl (p : Entry) : NoBetter p p := ⟨le_rfl, fun _ => le_rfl⟩

theorem NoBetter.trans {p q r : Entry} (h : NoBetter p q) (h' : NoBetter q r) : NoBetter p r :=
  ⟨h.1.trans h'.1, fun e => by
    have e1 : p.1 = q.1 := le_antisymm h.1 (e ▸ h'.1)
    exact (h'.2 (e1 ▸ e)).trans (h.2 e1)⟩

/-- The reducer keeps one of the two, -/
theorem red_mem (a b : Entry) : reducer_argmax_f32_i32 (F := Ideal) a b = a ∨ reducer_argmax_f32_i32 (F := Ideal) a b = b := by
  obtain ⟨x, n⟩ := a
  obtain ⟨y, k⟩ := b
  unfold reducer_argmax_f32_i32
  rcases lt_trichotomy x y with h | rfl | h
  · right; simp [pointwise, IntOp.ori, IntOp.andi, IntOp.cmpi, Scalar.select, h.ne, not_lt_of_gt h]
  · by_cases hs : n.slt k
    · left; simp [pointwise, IntOp.ori, IntOp.andi, IntOp.cmpi, Scalar.select, hs]
    · right; simp [pointwise, IntOp.ori, IntOp.andi, IntOp.cmpi, Scalar.select, hs]
  · left; simp [pointwise, IntOp.ori, IntOp.andi, IntOp.cmpi, Scalar.select, h.ne', h]

/-- and neither is better than what it keeps. -/
theorem red_best (a b : Entry) :
    NoBetter a (reducer_argmax_f32_i32 (F := Ideal) a b) ∧ NoBetter b (reducer_argmax_f32_i32 (F := Ideal) a b) := by
  obtain ⟨x, n⟩ := a
  obtain ⟨y, k⟩ := b
  unfold reducer_argmax_f32_i32 NoBetter
  rcases lt_trichotomy x y with h | rfl | h
  · simp [pointwise, IntOp.ori, IntOp.andi, IntOp.cmpi, Scalar.select, h.ne, not_lt_of_gt h, h.le]
  · by_cases hs : n.slt k
    · have := BitVec.slt_iff_toInt_lt.mp hs
      simp [pointwise, IntOp.ori, IntOp.andi, IntOp.cmpi, Scalar.select, hs, this.le]
    · have : k.toInt ≤ n.toInt := not_lt.mp fun h => hs (BitVec.slt_iff_toInt_lt.mpr h)
      simp [pointwise, IntOp.ori, IntOp.andi, IntOp.cmpi, Scalar.select, hs, this]
  · simp [pointwise, IntOp.ori, IntOp.andi, IntOp.cmpi, Scalar.select, h.ne', h.ne, h, h.le]

/-- The reducer folded over a list keeps an entry of it, none of them better. -/
theorem foldl_best (l : List Entry) (p : Entry) :
    l.foldl (reducer_argmax_f32_i32 (F := Ideal)) p ∈ p :: l
      ∧ ∀ e ∈ p :: l, NoBetter e (l.foldl (reducer_argmax_f32_i32 (F := Ideal)) p) := by
  induction l generalizing p with
  | nil => exact ⟨List.mem_singleton_self p, fun e he => by rw [List.mem_singleton.mp he]; exact .refl p⟩
  | cons a l ih =>
    obtain ⟨hm, hb⟩ := ih (reducer_argmax_f32_i32 (F := Ideal) p a)
    have hr := hb _ List.mem_cons_self
    refine ⟨?_, fun e he => ?_⟩
    · rcases List.mem_cons.mp hm with h | h
      · rw [List.foldl_cons, h]
        rcases red_mem p a with h' | h' <;> rw [h'] <;> simp
      · exact List.mem_cons_of_mem _ (List.mem_cons_of_mem _ h)
    · rcases List.mem_cons.mp he with rfl | he
      · exact (red_best e a).1.trans hr
      · rcases List.mem_cons.mp he with rfl | he
        · exact (red_best p e).2.trans hr
        · exact hb e (List.mem_cons_of_mem _ he)

/-! ## The two rows -/

variable (A : FVec Ideal S8192x256 .f32) (j : Fin 256)

/-- The initial pair, −∞ and row 0. -/
abbrev startVal : FVec Ideal S_ .f32 := constant S_ .f32 0xFF800000#32
abbrev startIdx : IVec S_ 32 := constantI S_ 32 0#32
abbrev rowNos : IVec S8192x256 32 := iotaInDim S8192x256 32 0

/-- The entries reduced down a column of a rank-2 array: those of its rows. -/
theorem mem_fiber {n0 n1 : ℕ} {t : Shape} {α β : Type} (x : (⟨2, ![n0, n1]⟩ : Shape).Idx → α) (y : (⟨2, ![n0, n1]⟩ : Shape).Idx → β)
    (h : (⟨2, ![n0, n1]⟩ : Shape).ReducesTo [0] t) (i : t.Idx) (e : α × β) :
    e ∈ Host.argReduceFiber x y h i ↔ ∃ r : Fin n0,
      e = (x (ix2 r ⟨(i ⟨0, h.lt_r2_a0_0⟩).val, Shape.coordLt (i ⟨0, h.lt_r2_a0_0⟩) h.size_r2_a0_0⟩),
        y (ix2 r ⟨(i ⟨0, h.lt_r2_a0_0⟩).val, Shape.coordLt (i ⟨0, h.lt_r2_a0_0⟩) h.size_r2_a0_0⟩)) := by
  unfold Host.argReduceFiber
  rw [List.mem_map]
  constructor
  · rintro ⟨n, hn, rfl⟩
    obtain ⟨r, hr⟩ := (h.fiber_r2_a0 i _).mp (of_decide_eq_true (List.mem_filter.mp hn).2)
    exact ⟨r, by rw [hr]⟩
  · rintro ⟨r, rfl⟩
    refine ⟨Shape.rowMajor _ (ix2 r ⟨_, Shape.coordLt (i ⟨0, h.lt_r2_a0_0⟩) h.size_r2_a0_0⟩),
      List.mem_filter.mpr ⟨List.mem_finRange _, decide_eq_true ?_⟩, ?_⟩
    · rw [Equiv.symm_apply_apply]
      exact (h.fiber_r2_a0 i _).mpr ⟨r, rfl⟩
    · rw [Equiv.symm_apply_apply]

/-- An entry's number is its row's. -/
theorem rowNos_apply (r : Fin 8192) : rowNos (ix2 r j) = BitVec.ofNat 32 r.val := by
  simp only [pointwise]
  done

/-- The entries of column `j`: each row's value with its number. -/
theorem mem_column (e : Entry) :
    e ∈ Host.argReduceFiber A rowNos reducesTo_S8192x256_S256_d0 (ix1 j)
      ↔ ∃ r : Fin 8192, e = (A (ix2 r j), BitVec.ofNat 32 r.val) := by
  rw [mem_fiber]
  exact exists_congr fun r => by rw [← rowNos_apply j r]; exact Iff.rfl

theorem toInt_row (r : Fin 8192) : (BitVec.ofNat 32 r.val).toInt = (r.val : ℤ) := by
  have hr := r.isLt
  have hn : (BitVec.ofNat 32 r.val).toNat = r.val := by rw [BitVec.toNat_ofNat]; omega
  rw [BitVec.toInt_eq_toNat_of_lt (by omega), hn]

/-- The initial pair's elements. -/
theorem startVal_apply (i : S_.Idx) : startVal i = (⊥ : EReal) := ofBits_bot
theorem startIdx_apply (i : S_.Idx) : startIdx i = 0#32 := rfl

/-- The pair reduced down column `j`: the reducer folded over the column's entries. -/
theorem argPair_eq : argPair A rowNos startVal startIdx (ix1 j)
    = (Host.argReduceFiber A rowNos reducesTo_S8192x256_S256_d0 (ix1 j)).foldl (reducer_argmax_f32_i32 (F := Ideal)) (⊥, 0#32) := by
  unfold argPair
  rw [Ideal.argReduce_eq_reduce2, Host.reduce2_eq_foldl_fiber, startVal_apply, startIdx_apply]

/-- No row's entry is better than that pair, -/
theorem argPair_best (r : Fin 8192) : NoBetter (A (ix2 r j), BitVec.ofNat 32 r.val) (argPair A rowNos startVal startIdx (ix1 j)) := by
  rw [argPair_eq]
  exact (foldl_best _ _).2 _ (List.mem_cons_of_mem _ ((mem_column A j _).mpr ⟨r, rfl⟩))

/-- The pair of −∞ and row 0, where no row is better, is row 0's entry. -/
theorem start_row (p : Entry) (hp : p = (⊥, 0#32)) (a : EReal) (h : NoBetter (a, 0#32) p) : p = (a, 0#32) := by
  subst hp
  exact Prod.ext (le_bot_iff.mp (show a ≤ ⊥ from h.1)).symm rfl

/-- and it is a row's. -/
theorem argPair_row : ∃ r : Fin 8192, argPair A rowNos startVal startIdx (ix1 j) = (A (ix2 r j), BitVec.ofNat 32 r.val) := by
  have hm := (foldl_best (Host.argReduceFiber A rowNos reducesTo_S8192x256_S256_d0 (ix1 j)) (⊥, 0#32)).1
  rw [← argPair_eq] at hm
  rcases List.mem_cons.mp hm with h | h
  · exact ⟨0, start_row _ h _ (argPair_best A j 0)⟩
  · exact (mem_column A j _).mp h

/-- Its number as an integer. -/
theorem argIdx_toInt (r : Fin 8192) (h : argPair A rowNos startVal startIdx (ix1 j) = (A (ix2 r j), BitVec.ofNat 32 r.val)) :
    (argIdx A rowNos startVal startIdx (ix1 j)).toInt = (r.val : ℤ) := by
  have e : argIdx A rowNos startVal startIdx (ix1 j) = number (argPair A rowNos startVal startIdx (ix1 j)) := rfl
  rw [e, h]
  exact toInt_row r

/-- The row number of column `j` is the smallest of a row with the largest value. -/
theorem arg_best : ∃ (a : EReal) (n : ℕ), Best Fin.val (fun _ : Fin 8192 => True) (fun r => A (ix2 r j)) a n
    ∧ (argIdx A rowNos startVal startIdx (ix1 j)).toInt = (n : ℤ) := by
  obtain ⟨r, hr⟩ := argPair_row A j
  have hrow : ∀ q : Fin 8192, NoBetter (A (ix2 q j), BitVec.ofNat 32 q.val) (A (ix2 r j), BitVec.ofNat 32 r.val) :=
    fun q => hr ▸ argPair_best A j q
  refine ⟨A (ix2 r j), r.val, ⟨⟨r, trivial, rfl, rfl⟩, fun q _ => (hrow q).1, fun q _ hq => ?_⟩, ?_⟩
  · have := (hrow q).2 hq
    rw [toInt_row, toInt_row] at this
    exact_mod_cast this
  · exact argIdx_toInt A j r hr

/-- The largest value of column `j`. -/
theorem colMax_apply : colMax A startVal (ix1 j) = gmax fun r : Fin 8192 => A (ix2 r j) := by
  unfold colMax
  rw [Host.reduce_eq_fold]
  simp only [pointwise, ofBits_bot]
  rfl

/-- The rows of two rows stacked, and the entries of a row made of a vector. -/
theorem stackRows_zero (a b : FVec Ideal S1x256 .f32) : stackRows a b (ix2 (0 : Fin 2) j) = a (ix2 (0 : Fin 1) j) := by
  unfold stackRows
  simp only [pointwise]
  rfl
theorem stackRows_one (a b : FVec Ideal S1x256 .f32) : stackRows a b (ix2 (1 : Fin 2) j) = b (ix2 (0 : Fin 1) j) := by
  unfold stackRows
  rw [concatenate_pair_apply]
  refine (dif_neg (show ¬(1 : ℕ) < 1 by decide)).trans ?_
  refine congrArg b (funext fun a => Fin.ext ?_)
  fin_cases a <;> rfl
theorem asRow_apply (a : FVec Ideal S256 .f32) : asRow a (ix2 (0 : Fin 1) j) = a (ix1 j) := by
  unfold asRow
  simp only [pointwise]
  rfl

theorem out_zero : out A (ix2 (0 : Fin 2) j) = colMax A startVal (ix1 j) := by
  unfold out
  rw [stackRows_zero, asRow_apply]

theorem out_one : out A (ix2 (1 : Fin 2) j) = (((argIdx A rowNos startVal startIdx (ix1 j)).toInt : ℝ) : EReal) := by
  unfold out
  rw [stackRows_one, asRow_apply]
  rfl

/-- The result: the pair of the whole column. -/
theorem out_best : IsBest Fin.val (fun _ : Fin 8192 => True) (fun r => A (ix2 r j)) (out A (ix2 (0 : Fin 2) j)) (out A (ix2 (1 : Fin 2) j)) := by
  obtain ⟨a, n, hb, hn⟩ := arg_best A j
  have hv : gmax (fun r : Fin 8192 => A (ix2 r j)) = a := hb.value id fun r => ⟨fun _ => ⟨r, rfl⟩, fun _ => trivial⟩
  refine ⟨n, by rw [out_zero, colMax_apply, hv]; exact hb, ?_⟩
  rw [out_one, hn]
  rfl

end Cert.ReferenceIdeal.Pr

end
-- ==== Proof.Value.Equation.lean ====
/-  The two programs' results are the same array: each holds, at every column, the largest value and the smallest row
    that attains it, and there is only one such pair. -/
module

public import proofs.«01_k».proof.Proof.Value.Kernel
public import proofs.«01_k».proof.Proof.Value.Reference
public import Idealize.ShloMosaic.Lib.Layout

@[expose] public section

noncomputable section

namespace Cert.Equation

open Idealize.ShloMosaic Cert.Best

/-- Element (r, j) of block `c` of the whole array is element (256 c + r, j). -/
theorem block_elem (A : Vec Ideal ⟨2, ![8192, 256]⟩ .f32) (c : Fin 32) (r j : Fin 256) :
    (Layout.block ⟨2, ![256, 256]⟩ ⟨2, ![8192, 256]⟩ 0 32 c A : Vec Ideal ⟨2, ![256, 256]⟩ .f32) (ix2 r j)
      = A (ix2 (Cert.KernelIdeal.Pr.wholeRow c r) j) := by
  rw [Layout.block_apply]
  refine congrArg A (funext fun a => Fin.ext ?_)
  rw [Layout.Tiles.idx_val]
  fin_cases a <;> rfl

/-- If each device holds its block of `A`, each device's result is the reference's of `A`. -/
theorem outAt_eq (X : Fin 32 → Vec Ideal ⟨2, ![256, 256]⟩ .f32) (A : Vec Ideal ⟨2, ![8192, 256]⟩ .f32)
    (hX : ∀ c, X c = Layout.block ⟨2, ![256, 256]⟩ ⟨2, ![8192, 256]⟩ 0 32 c A) (c : Fin 32) :
    Cert.KernelIdeal.Pr.outAt (F := Ideal) X c = Cert.ReferenceIdeal.Pr.out (F := Ideal) A := by
  refine funext fun i : (⟨2, ![2, 256]⟩ : Shape).Idx => ?_
  obtain ⟨b, j, rfl⟩ : ∃ (b : Fin 2) (j : Fin 256), i = ix2 b j := ⟨i 0, i 1, eq_ix2 i⟩
  obtain ⟨h0, h1⟩ := (Cert.KernelIdeal.Pr.out_best X A (fun d r j => by rw [hX d]; exact block_elem A d r j) c j).unique
    (Cert.ReferenceIdeal.Pr.out_best A j)
  match b with
  | 0 => exact h0
  | 1 => exact h1

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Kernel.Run
public import proofs.«01_k».proof.Proof.KernelIdeal.Run
public import proofs.«01_k».proof.Proof.Reference.Run
public import proofs.«01_k».proof.Proof.Value.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The printed kernel runs, its argument ends unchanged and every counter at zero. -/
theorem frame_kernel : Cert.quiescent_Kernel (hKernel := Cert.Kernel.Gen.facts) := fun m g _ =>
  (θ_run Cert.Kernel.defs _ _).mono (fun _ h => ⟨fun c => (h.1 c (0 : Fin 2)).trans (Cert.Kernel.Pr.finalA_x m g c), h.2⟩)
    (Cert.Kernel.Pr.run_main (F := Bits) m g)

/-- So does the same program over the extended reals. -/
theorem frame_ideal : Cert.quiescent_KernelIdeal (hKernelIdeal := Cert.KernelIdeal.Gen.facts) := fun m g _ =>
  (θ_run Cert.KernelIdeal.defs _ _).mono (fun _ h => ⟨fun c => (h.1 c (0 : Fin 2)).trans (Cert.KernelIdeal.Pr.finalA_x m g c), h.2⟩)
    (Cert.KernelIdeal.Pr.run_main (F := Ideal) m g)

/-- The reference runs, its argument ends unchanged and it has no counters. -/
theorem frame_reference : Cert.quiescent_ReferenceIdeal (hReferenceIdeal := Cert.ReferenceIdeal.Gen.facts) := fun m g _ =>
  (θ_run Cert.ReferenceIdeal.defs _ _).mono
    (fun r h => ⟨fun c => (h c Cert.ReferenceIdeal.main_arg0).trans (Cert.ReferenceIdeal.Pr.arg0_eq _),
      Idealize.ShloMosaic.sem_eq_zero_of_no_sems (by decide) r.2⟩)
    (Cert.ReferenceIdeal.Pr.run_main (F := Ideal) m g)

/-- Every device's result is the reference's result. -/
theorem value : Cert.algebraic_KernelIdeal_ReferenceIdeal (hKernelIdeal := Cert.KernelIdeal.Gen.facts)
    (hReferenceIdeal := Cert.ReferenceIdeal.Gen.facts) := fun m g m' g' _ hm =>
  ⟨Cert.ReferenceIdeal.Pr.out (F := Ideal) (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨((h.1 c (1 : Fin 2)).trans (Cert.KernelIdeal.Pr.finalA_out m g c)).trans
          (Cert.Equation.outAt_eq _ _ (fun d => (Cert.KernelIdeal.Pr.xstg_eq m g d).trans (hm d)) c),
        (h.1 c (0 : Fin 2)).trans (Cert.KernelIdeal.Pr.finalA_x m g c)⟩)
      (Cert.KernelIdeal.Pr.run_main (F := Ideal) m g),
    (θ_run Cert.ReferenceIdeal.defs _ _).mono
      (fun _ h => ⟨(h 0 Cert.ReferenceIdeal.main_v5).trans (Cert.ReferenceIdeal.Pr.out_eq _),
        (h 0 Cert.ReferenceIdeal.main_arg0).trans (Cert.ReferenceIdeal.Pr.arg0_eq _)⟩)
      (Cert.ReferenceIdeal.Pr.run_main (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
